-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![1024, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 1024]⟩ ⟨2, ![1024, 1024]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x256 : Shape := ⟨2, ![1024, 256]⟩
abbrev S256x1024 : Shape := ⟨2, ![256, 1024]⟩
abbrev S1024x1024 : Shape := ⟨2, ![1024, 1024]⟩
abbrev S2x4x256x512 : Shape := ⟨4, ![2, 4, 256, 512]⟩
abbrev S2x6x256x512 : Shape := ⟨4, ![2, 6, 256, 512]⟩
abbrev S2x6 : Shape := ⟨2, ![2, 6]⟩
abbrev S_ : Shape := ⟨0, ![]⟩
abbrev S256x256 : Shape := ⟨2, ![256, 256]⟩
abbrev S256x512 : Shape := ⟨2, ![256, 512]⟩
abbrev S1x256x512 : Shape := ⟨3, ![1, 256, 512]⟩
abbrev S1x1x256x512 : Shape := ⟨4, ![1, 1, 256, 512]⟩
abbrev S1x1 : Shape := ⟨2, ![1, 1]⟩
abbrev S512x256 : Shape := ⟨2, ![512, 256]⟩
abbrev S512x512 : Shape := ⟨2, ![512, 512]⟩
abbrev S2x256x512 : Shape := ⟨3, ![2, 256, 512]⟩
abbrev S1x2x256x512 : Shape := ⟨4, ![1, 2, 256, 512]⟩

abbrev nBuf : Space → Nat
  | .hbm => 3
  | .vmem => 6
  | .smem => 0
  | _ => 0

abbrev bufTy : (tb : Table) → Fin (tcTables nBuf tb) → BufTy
  | .hbm, ⟨0, _⟩ => ⟨S1024x256, .f32⟩
  | .hbm, ⟨1, _⟩ => ⟨S256x1024, .f32⟩
  | .hbm, ⟨2, _⟩ => ⟨S1024x1024, .f32⟩
  | .local _ .vmem, ⟨0, _⟩ => ⟨S1024x256, .f32⟩
  | .local _ .vmem, ⟨1, _⟩ => ⟨S256x1024, .f32⟩
  | .local _ .vmem, ⟨2, _⟩ => ⟨S1024x1024, .f32⟩
  | .local _ .vmem, ⟨3, _⟩ => ⟨S2x4x256x512, .f32⟩
  | .local _ .vmem, ⟨4, _⟩ => ⟨S2x6x256x512, .bf16⟩
  | .local _ .vmem, ⟨5, _⟩ => ⟨S2x4x256x512, .bf16⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v21 : BitVec 32 := Scalar.addi v2 c1_i32_6
  let c2_i32_7 : BitVec 32 := 2#32
  let c2_i32 : BitVec 32 := 2#32
  let v3 : BitVec 32 := Scalar.remsi v2 c2_i32
  let v22 : BitVec 32 := Scalar.muli c2_i32_7 v3
  let v23 : BitVec 32 := Scalar.subi v21 v22
  let c1_i32_10 : BitVec 32 := 1#32
  let v28 : BitVec 32 := Scalar.muli v23 c1_i32_10
  let v29 : BitVec 32 := Scalar.addi c0_i32_11 v28
  v29.toNat
def k0_dev2 (d0 : Dev nD) : Nat :=
  let c0_i32_14 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v24 : BitVec 32 := Scalar.subi c3_i32 v2
  let c1_i32_13 : BitVec 32 := 1#32
  let v30 : BitVec 32 := Scalar.muli v24 c1_i32_13
  let v31 : BitVec 32 := Scalar.addi c0_i32_14 v30
  v31.toNat
def k0_off1 (d0 : Dev nD) : Fin 2 → Nat :=
  let c2_i32_16 : BitVec 32 := 2#32
  let c1_i32_15 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.remsi v2 c2_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32_0 : BitVec 32 := 2#32
  let c0_i32_2 : BitVec 32 := 0#32
  let v10 : BitVec 1 := Scalar.cmpi .sgt c2_i32_0 c0_i32_2
  let v11 : BitVec 32 := Scalar.extui v10
  let c0_i32_3 : BitVec 32 := 0#32
  let v12 : BitVec 1 := Scalar.cmpi .slt c2_i32_0 c0_i32_3
  let v13 : BitVec 32 := Scalar.extui v12
  let v14 : BitVec 32 := Scalar.subi v11 v13
  let v15 : BitVec 1 := Scalar.cmpi .ne v9 v14
  let v16 : BitVec 32 := Scalar.remsi v2 c2_i32_0
  let c0_i32_4 : BitVec 32 := 0#32
  let v17 : BitVec 1 := Scalar.cmpi .ne v16 c0_i32_4
  let v18 : BitVec 1 := Scalar.andi v15 v17
  let v4 : BitVec 32 := Scalar.divsi v2 c2_i32_0
  let c1_i32_5 : BitVec 32 := 1#32
  let v19 : BitVec 32 := Scalar.subi v4 c1_i32_5
  let v20 : BitVec 32 := Scalar.select v18 v19 v4
  let v25 : BitVec 32 := Scalar.addi v3 v20
  let c2_i32_8 : BitVec 32 := 2#32
  let v26 : BitVec 32 := Scalar.remsi v25 c2_i32_8
  let v32 : BitVec 32 := Scalar.subi c1_i32_15 v26
  let v33 : BitVec 32 := Scalar.muli c2_i32_16 v32
  let c1_i32_25 : BitVec 32 := 1#32
  let v46 : BitVec 32 := Scalar.subi c1_i32_25 v20
  let v50 : BitVec 32 := Scalar.addi v33 v46
  let c256_i32 : BitVec 32 := 256#32
  let v51 : BitVec 32 := Scalar.muli v50 c256_i32
  let v52 : Index := Scalar.indexCast v51
  let c0 : Index := 0#32
  ![v52.toNat, 0]
def k0_off2 (d0 : Dev nD) : Fin 2 → Nat :=
  let c2_i32_18 : BitVec 32 := 2#32
  let c1_i32_17 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32_0 : BitVec 32 := 2#32
  let c0_i32_2 : BitVec 32 := 0#32
  let v10 : BitVec 1 := Scalar.cmpi .sgt c2_i32_0 c0_i32_2
  let v11 : BitVec 32 := Scalar.extui v10
  let c0_i32_3 : BitVec 32 := 0#32
  let v12 : BitVec 1 := Scalar.cmpi .slt c2_i32_0 c0_i32_3
  let v13 : BitVec 32 := Scalar.extui v12
  let v14 : BitVec 32 := Scalar.subi v11 v13
  let v15 : BitVec 1 := Scalar.cmpi .ne v9 v14
  let v16 : BitVec 32 := Scalar.remsi v2 c2_i32_0
  let c0_i32_4 : BitVec 32 := 0#32
  let v17 : BitVec 1 := Scalar.cmpi .ne v16 c0_i32_4
  let v18 : BitVec 1 := Scalar.andi v15 v17
  let v4 : BitVec 32 := Scalar.divsi v2 c2_i32_0
  let c1_i32_5 : BitVec 32 := 1#32
  let v19 : BitVec 32 := Scalar.subi v4 c1_i32_5
  let v20 : BitVec 32 := Scalar.select v18 v19 v4
  let v34 : BitVec 32 := Scalar.subi c1_i32_17 v20
  let v35 : BitVec 32 := Scalar.muli c2_i32_18 v34
  let c2_i32 : BitVec 32 := 2#32
  let v3 : BitVec 32 := Scalar.remsi v2 c2_i32
  let v64 : BitVec 32 := Scalar.addi v35 v3
  let c256_i32_35 : BitVec 32 := 256#32
  let v65 : BitVec 32 := Scalar.muli v64 c256_i32_35
  let v66 : Index := Scalar.indexCast v65
  let c0_36 : Index := 0#32
  ![v66.toNat, 0]
def k0_dev3 (d0 : Dev nD) : Nat :=
  let c0_i32_52 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v21 : BitVec 32 := Scalar.addi v2 c1_i32_6
  let c2_i32_7 : BitVec 32 := 2#32
  let c2_i32 : BitVec 32 := 2#32
  let v3 : BitVec 32 := Scalar.remsi v2 c2_i32
  let v22 : BitVec 32 := Scalar.muli c2_i32_7 v3
  let v23 : BitVec 32 := Scalar.subi v21 v22
  let c1_i32_51 : BitVec 32 := 1#32
  let v78 : BitVec 32 := Scalar.muli v23 c1_i32_51
  let v79 : BitVec 32 := Scalar.addi c0_i32_52 v78
  v79.toNat
def k0_dev4 (d0 : Dev nD) : Nat :=
  let c0_i32_66 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v24 : BitVec 32 := Scalar.subi c3_i32 v2
  let c1_i32_65 : BitVec 32 := 1#32
  let v88 : BitVec 32 := Scalar.muli v24 c1_i32_65
  let v89 : BitVec 32 := Scalar.addi c0_i32_66 v88
  v89.toNat
def k0_off3 (d0 : Dev nD) : Fin 2 → Nat :=
  let c2_i32_16 : BitVec 32 := 2#32
  let c1_i32_15 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.remsi v2 c2_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32_0 : BitVec 32 := 2#32
  let c0_i32_2 : BitVec 32 := 0#32
  let v10 : BitVec 1 := Scalar.cmpi .sgt c2_i32_0 c0_i32_2
  let v11 : BitVec 32 := Scalar.extui v10
  let c0_i32_3 : BitVec 32 := 0#32
  let v12 : BitVec 1 := Scalar.cmpi .slt c2_i32_0 c0_i32_3
  let v13 : BitVec 32 := Scalar.extui v12
  let v14 : BitVec 32 := Scalar.subi v11 v13
  let v15 : BitVec 1 := Scalar.cmpi .ne v9 v14
  let v16 : BitVec 32 := Scalar.remsi v2 c2_i32_0
  let c0_i32_4 : BitVec 32 := 0#32
  let v17 : BitVec 1 := Scalar.cmpi .ne v16 c0_i32_4
  let v18 : BitVec 1 := Scalar.andi v15 v17
  let v4 : BitVec 32 := Scalar.divsi v2 c2_i32_0
  let c1_i32_5 : BitVec 32 := 1#32
  let v19 : BitVec 32 := Scalar.subi v4 c1_i32_5
  let v20 : BitVec 32 := Scalar.select v18 v19 v4
  let v25 : BitVec 32 := Scalar.addi v3 v20
  let c2_i32_8 : BitVec 32 := 2#32
  let v26 : BitVec 32 := Scalar.remsi v25 c2_i32_8
  let v32 : BitVec 32 := Scalar.subi c1_i32_15 v26
  let v33 : BitVec 32 := Scalar.muli c2_i32_16 v32
  let v98 : BitVec 32 := Scalar.addi v33 v20
  let c256_i32_71 : BitVec 32 := 256#32
  let v99 : BitVec 32 := Scalar.muli v98 c256_i32_71
  let v100 : Index := Scalar.indexCast v99
  let c0_72 : Index := 0#32
  ![v100.toNat, 0]
def k0_dev5 (d0 : Dev nD) : Nat :=
  let c0_i32_89 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v21 : BitVec 32 := Scalar.addi v2 c1_i32_6
  let c2_i32_7 : BitVec 32 := 2#32
  let c2_i32 : BitVec 32 := 2#32
  let v3 : BitVec 32 := Scalar.remsi v2 c2_i32
  let v22 : BitVec 32 := Scalar.muli c2_i32_7 v3
  let v23 : BitVec 32 := Scalar.subi v21 v22
  let c1_i32_88 : BitVec 32 := 1#32
  let v112 : BitVec 32 := Scalar.muli v23 c1_i32_88
  let v113 : BitVec 32 := Scalar.addi c0_i32_89 v112
  v113.toNat
def k0_off4 (d0 : Dev nD) : Fin 2 → Nat :=
  let c2_i32_18 : BitVec 32 := 2#32
  let c1_i32_17 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32_0 : BitVec 32 := 2#32
  let c0_i32_2 : BitVec 32 := 0#32
  let v10 : BitVec 1 := Scalar.cmpi .sgt c2_i32_0 c0_i32_2
  let v11 : BitVec 32 := Scalar.extui v10
  let c0_i32_3 : BitVec 32 := 0#32
  let v12 : BitVec 1 := Scalar.cmpi .slt c2_i32_0 c0_i32_3
  let v13 : BitVec 32 := Scalar.extui v12
  let v14 : BitVec 32 := Scalar.subi v11 v13
  let v15 : BitVec 1 := Scalar.cmpi .ne v9 v14
  let v16 : BitVec 32 := Scalar.remsi v2 c2_i32_0
  let c0_i32_4 : BitVec 32 := 0#32
  let v17 : BitVec 1 := Scalar.cmpi .ne v16 c0_i32_4
  let v18 : BitVec 1 := Scalar.andi v15 v17
  let v4 : BitVec 32 := Scalar.divsi v2 c2_i32_0
  let c1_i32_5 : BitVec 32 := 1#32
  let v19 : BitVec 32 := Scalar.subi v4 c1_i32_5
  let v20 : BitVec 32 := Scalar.select v18 v19 v4
  let v34 : BitVec 32 := Scalar.subi c1_i32_17 v20
  let v35 : BitVec 32 := Scalar.muli c2_i32_18 v34
  let c1_i32_26 : BitVec 32 := 1#32
  let c2_i32 : BitVec 32 := 2#32
  let v3 : BitVec 32 := Scalar.remsi v2 c2_i32
  let v47 : BitVec 32 := Scalar.subi c1_i32_26 v3
  let v122 : BitVec 32 := Scalar.addi v35 v47
  let c256_i32_94 : BitVec 32 := 256#32
  let v123 : BitVec 32 := Scalar.muli v122 c256_i32_94
  let v124 : Index := Scalar.indexCast v123
  let c0_95 : Index := 0#32
  ![v124.toNat, 0]
def k0_dev6 (d0 : Dev nD) : Nat :=
  let c0_i32_112 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v24 : BitVec 32 := Scalar.subi c3_i32 v2
  let c1_i32_111 : BitVec 32 := 1#32
  let v136 : BitVec 32 := Scalar.muli v24 c1_i32_111
  let v137 : BitVec 32 := Scalar.addi c0_i32_112 v136
  v137.toNat
def k0_off5 (d0 : Dev nD) : Fin 2 → Nat :=
  let c2_i32_27 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.remsi v2 c2_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32_0 : BitVec 32 := 2#32
  let c0_i32_2 : BitVec 32 := 0#32
  let v10 : BitVec 1 := Scalar.cmpi .sgt c2_i32_0 c0_i32_2
  let v11 : BitVec 32 := Scalar.extui v10
  let c0_i32_3 : BitVec 32 := 0#32
  let v12 : BitVec 1 := Scalar.cmpi .slt c2_i32_0 c0_i32_3
  let v13 : BitVec 32 := Scalar.extui v12
  let v14 : BitVec 32 := Scalar.subi v11 v13
  let v15 : BitVec 1 := Scalar.cmpi .ne v9 v14
  let v16 : BitVec 32 := Scalar.remsi v2 c2_i32_0
  let c0_i32_4 : BitVec 32 := 0#32
  let v17 : BitVec 1 := Scalar.cmpi .ne v16 c0_i32_4
  let v18 : BitVec 1 := Scalar.andi v15 v17
  let v4 : BitVec 32 := Scalar.divsi v2 c2_i32_0
  let c1_i32_5 : BitVec 32 := 1#32
  let v19 : BitVec 32 := Scalar.subi v4 c1_i32_5
  let v20 : BitVec 32 := Scalar.select v18 v19 v4
  let v25 : BitVec 32 := Scalar.addi v3 v20
  let c2_i32_8 : BitVec 32 := 2#32
  let v26 : BitVec 32 := Scalar.remsi v25 c2_i32_8
  let v48 : BitVec 32 := Scalar.muli c2_i32_27 v26
  let c256_i32_117 : BitVec 32 := 256#32
  let v146 : BitVec 32 := Scalar.muli v48 c256_i32_117
  let v147 : Index := Scalar.indexCast v146
  let c0_118 : Index := 0#32
  ![v147.toNat, 0]
def k0_off6 (d0 : Dev nD) : Fin 4 → Nat :=
  let c0_122 : Index := 0#32
  let c2_i32_27 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.remsi v2 c2_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32_0 : BitVec 32 := 2#32
  let c0_i32_2 : BitVec 32 := 0#32
  let v10 : BitVec 1 := Scalar.cmpi .sgt c2_i32_0 c0_i32_2
  let v11 : BitVec 32 := Scalar.extui v10
  let c0_i32_3 : BitVec 32 := 0#32
  let v12 : BitVec 1 := Scalar.cmpi .slt c2_i32_0 c0_i32_3
  let v13 : BitVec 32 := Scalar.extui v12
  let v14 : BitVec 32 := Scalar.subi v11 v13
  let v15 : BitVec 1 := Scalar.cmpi .ne v9 v14
  let v16 : BitVec 32 := Scalar.remsi v2 c2_i32_0
  let c0_i32_4 : BitVec 32 := 0#32
  let v17 : BitVec 1 := Scalar.cmpi .ne v16 c0_i32_4
  let v18 : BitVec 1 := Scalar.andi v15 v17
  let v4 : BitVec 32 := Scalar.divsi v2 c2_i32_0
  let c1_i32_5 : BitVec 32 := 1#32
  let v19 : BitVec 32 := Scalar.subi v4 c1_i32_5
  let v20 : BitVec 32 := Scalar.select v18 v19 v4
  let v25 : BitVec 32 := Scalar.addi v3 v20
  let c2_i32_8 : BitVec 32 := 2#32
  let v26 : BitVec 32 := Scalar.remsi v25 c2_i32_8
  let v48 : BitVec 32 := Scalar.muli c2_i32_27 v26
  let v154 : Index := Scalar.indexCast v48
  let c0_123 : Index := 0#32
  let c0_124 : Index := 0#32
  ![0, v154.toNat, 0, 0]
def k0_off7 (d0 : Dev nD) : Fin 2 → Nat :=
  let c2_i32_28 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32_0 : BitVec 32 := 2#32
  let c0_i32_2 : BitVec 32 := 0#32
  let v10 : BitVec 1 := Scalar.cmpi .sgt c2_i32_0 c0_i32_2
  let v11 : BitVec 32 := Scalar.extui v10
  let c0_i32_3 : BitVec 32 := 0#32
  let v12 : BitVec 1 := Scalar.cmpi .slt c2_i32_0 c0_i32_3
  let v13 : BitVec 32 := Scalar.extui v12
  let v14 : BitVec 32 := Scalar.subi v11 v13
  let v15 : BitVec 1 := Scalar.cmpi .ne v9 v14
  let v16 : BitVec 32 := Scalar.remsi v2 c2_i32_0
  let c0_i32_4 : BitVec 32 := 0#32
  let v17 : BitVec 1 := Scalar.cmpi .ne v16 c0_i32_4
  let v18 : BitVec 1 := Scalar.andi v15 v17
  let v4 : BitVec 32 := Scalar.divsi v2 c2_i32_0
  let c1_i32_5 : BitVec 32 := 1#32
  let v19 : BitVec 32 := Scalar.subi v4 c1_i32_5
  let v20 : BitVec 32 := Scalar.select v18 v19 v4
  let v49 : BitVec 32 := Scalar.muli c2_i32_28 v20
  let c256_i32_125 : BitVec 32 := 256#32
  let v158 : BitVec 32 := Scalar.muli v49 c256_i32_125
  let v159 : Index := Scalar.indexCast v158
  let c0_126 : Index := 0#32
  ![v159.toNat, 0]
def k0_off8 (d0 : Dev nD) : Fin 4 → Nat :=
  let c1_130 : Index := 1#32
  let c2_i32_28 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32_0 : BitVec 32 := 2#32
  let c0_i32_2 : BitVec 32 := 0#32
  let v10 : BitVec 1 := Scalar.cmpi .sgt c2_i32_0 c0_i32_2
  let v11 : BitVec 32 := Scalar.extui v10
  let c0_i32_3 : BitVec 32 := 0#32
  let v12 : BitVec 1 := Scalar.cmpi .slt c2_i32_0 c0_i32_3
  let v13 : BitVec 32 := Scalar.extui v12
  let v14 : BitVec 32 := Scalar.subi v11 v13
  let v15 : BitVec 1 := Scalar.cmpi .ne v9 v14
  let v16 : BitVec 32 := Scalar.remsi v2 c2_i32_0
  let c0_i32_4 : BitVec 32 := 0#32
  let v17 : BitVec 1 := Scalar.cmpi .ne v16 c0_i32_4
  let v18 : BitVec 1 := Scalar.andi v15 v17
  let v4 : BitVec 32 := Scalar.divsi v2 c2_i32_0
  let c1_i32_5 : BitVec 32 := 1#32
  let v19 : BitVec 32 := Scalar.subi v4 c1_i32_5
  let v20 : BitVec 32 := Scalar.select v18 v19 v4
  let v49 : BitVec 32 := Scalar.muli c2_i32_28 v20
  let v166 : Index := Scalar.indexCast v49
  let c0_131 : Index := 0#32
  let c0_132 : Index := 0#32
  ![1, v166.toNat, 0, 0]
def k0_off9 (d0 : Dev nD) : Fin 4 → Nat :=
  let c0_147 : Index := 0#32
  let c2_i32_21 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.remsi v2 c2_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32_0 : BitVec 32 := 2#32
  let c0_i32_2 : BitVec 32 := 0#32
  let v10 : BitVec 1 := Scalar.cmpi .sgt c2_i32_0 c0_i32_2
  let v11 : BitVec 32 := Scalar.extui v10
  let c0_i32_3 : BitVec 32 := 0#32
  let v12 : BitVec 1 := Scalar.cmpi .slt c2_i32_0 c0_i32_3
  let v13 : BitVec 32 := Scalar.extui v12
  let v14 : BitVec 32 := Scalar.subi v11 v13
  let v15 : BitVec 1 := Scalar.cmpi .ne v9 v14
  let v16 : BitVec 32 := Scalar.remsi v2 c2_i32_0
  let c0_i32_4 : BitVec 32 := 0#32
  let v17 : BitVec 1 := Scalar.cmpi .ne v16 c0_i32_4
  let v18 : BitVec 1 := Scalar.andi v15 v17
  let v4 : BitVec 32 := Scalar.divsi v2 c2_i32_0
  let c1_i32_5 : BitVec 32 := 1#32
  let v19 : BitVec 32 := Scalar.subi v4 c1_i32_5
  let v20 : BitVec 32 := Scalar.select v18 v19 v4
  let v25 : BitVec 32 := Scalar.addi v3 v20
  let c2_i32_8 : BitVec 32 := 2#32
  let v26 : BitVec 32 := Scalar.remsi v25 c2_i32_8
  let v40 : BitVec 32 := Scalar.muli c2_i32_21 v26
  let c1_i32_22 : BitVec 32 := 1#32
  let v41 : BitVec 32 := Scalar.subi c1_i32_22 v20
  let v42 : BitVec 32 := Scalar.addi v40 v41
  let v178 : Index := Scalar.indexCast v42
  let c0_148 : Index := 0#32
  let c0_149 : Index := 0#32
  ![0, v178.toNat, 0, 0]
def k0_dev7 (d0 : Dev nD) : Nat :=
  let c0_i32_166 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v24 : BitVec 32 := Scalar.subi c3_i32 v2
  let c1_i32_165 : BitVec 32 := 1#32
  let v189 : BitVec 32 := Scalar.muli v24 c1_i32_165
  let v190 : BitVec 32 := Scalar.addi c0_i32_166 v189
  v190.toNat
def k0_off10 (d0 : Dev nD) : Fin 4 → Nat :=
  let c1_185 : Index := 1#32
  let c2_i32_23 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32_0 : BitVec 32 := 2#32
  let c0_i32_2 : BitVec 32 := 0#32
  let v10 : BitVec 1 := Scalar.cmpi .sgt c2_i32_0 c0_i32_2
  let v11 : BitVec 32 := Scalar.extui v10
  let c0_i32_3 : BitVec 32 := 0#32
  let v12 : BitVec 1 := Scalar.cmpi .slt c2_i32_0 c0_i32_3
  let v13 : BitVec 32 := Scalar.extui v12
  let v14 : BitVec 32 := Scalar.subi v11 v13
  let v15 : BitVec 1 := Scalar.cmpi .ne v9 v14
  let v16 : BitVec 32 := Scalar.remsi v2 c2_i32_0
  let c0_i32_4 : BitVec 32 := 0#32
  let v17 : BitVec 1 := Scalar.cmpi .ne v16 c0_i32_4
  let v18 : BitVec 1 := Scalar.andi v15 v17
  let v4 : BitVec 32 := Scalar.divsi v2 c2_i32_0
  let c1_i32_5 : BitVec 32 := 1#32
  let v19 : BitVec 32 := Scalar.subi v4 c1_i32_5
  let v20 : BitVec 32 := Scalar.select v18 v19 v4
  let v43 : BitVec 32 := Scalar.muli c2_i32_23 v20
  let c1_i32_24 : BitVec 32 := 1#32
  let c2_i32 : BitVec 32 := 2#32
  let v3 : BitVec 32 := Scalar.remsi v2 c2_i32
  let v44 : BitVec 32 := Scalar.subi c1_i32_24 v3
  let v45 : BitVec 32 := Scalar.addi v43 v44
  let v207 : Index := Scalar.indexCast v45
  let c0_186 : Index := 0#32
  let c0_187 : Index := 0#32
  ![1, v207.toNat, 0, 0]
def k0_dev8 (d0 : Dev nD) : Nat :=
  let c0_i32_205 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v21 : BitVec 32 := Scalar.addi v2 c1_i32_6
  let c2_i32_7 : BitVec 32 := 2#32
  let c2_i32 : BitVec 32 := 2#32
  let v3 : BitVec 32 := Scalar.remsi v2 c2_i32
  let v22 : BitVec 32 := Scalar.muli c2_i32_7 v3
  let v23 : BitVec 32 := Scalar.subi v21 v22
  let c1_i32_204 : BitVec 32 := 1#32
  let v218 : BitVec 32 := Scalar.muli v23 c1_i32_204
  let v219 : BitVec 32 := Scalar.addi c0_i32_205 v218
  v219.toNat
def k0_off11 (d0 : Dev nD) : Fin 4 → Nat :=
  let c0_224 : Index := 0#32
  let c2_i32_19 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.remsi v2 c2_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32_0 : BitVec 32 := 2#32
  let c0_i32_2 : BitVec 32 := 0#32
  let v10 : BitVec 1 := Scalar.cmpi .sgt c2_i32_0 c0_i32_2
  let v11 : BitVec 32 := Scalar.extui v10
  let c0_i32_3 : BitVec 32 := 0#32
  let v12 : BitVec 1 := Scalar.cmpi .slt c2_i32_0 c0_i32_3
  let v13 : BitVec 32 := Scalar.extui v12
  let v14 : BitVec 32 := Scalar.subi v11 v13
  let v15 : BitVec 1 := Scalar.cmpi .ne v9 v14
  let v16 : BitVec 32 := Scalar.remsi v2 c2_i32_0
  let c0_i32_4 : BitVec 32 := 0#32
  let v17 : BitVec 1 := Scalar.cmpi .ne v16 c0_i32_4
  let v18 : BitVec 1 := Scalar.andi v15 v17
  let v4 : BitVec 32 := Scalar.divsi v2 c2_i32_0
  let c1_i32_5 : BitVec 32 := 1#32
  let v19 : BitVec 32 := Scalar.subi v4 c1_i32_5
  let v20 : BitVec 32 := Scalar.select v18 v19 v4
  let v25 : BitVec 32 := Scalar.addi v3 v20
  let c2_i32_8 : BitVec 32 := 2#32
  let v26 : BitVec 32 := Scalar.remsi v25 c2_i32_8
  let v36 : BitVec 32 := Scalar.muli c2_i32_19 v26
  let v37 : BitVec 32 := Scalar.addi v36 v20
  let v236 : Index := Scalar.indexCast v37
  let c0_225 : Index := 0#32
  let c0_226 : Index := 0#32
  ![0, v236.toNat, 0, 0]
def k0_off12 (d0 : Dev nD) : Fin 4 → Nat :=
  let c1_248 : Index := 1#32
  let c2_i32_20 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32_0 : BitVec 32 := 2#32
  let c0_i32_2 : BitVec 32 := 0#32
  let v10 : BitVec 1 := Scalar.cmpi .sgt c2_i32_0 c0_i32_2
  let v11 : BitVec 32 := Scalar.extui v10
  let c0_i32_3 : BitVec 32 := 0#32
  let v12 : BitVec 1 := Scalar.cmpi .slt c2_i32_0 c0_i32_3
  let v13 : BitVec 32 := Scalar.extui v12
  let v14 : BitVec 32 := Scalar.subi v11 v13
  let v15 : BitVec 1 := Scalar.cmpi .ne v9 v14
  let v16 : BitVec 32 := Scalar.remsi v2 c2_i32_0
  let c0_i32_4 : BitVec 32 := 0#32
  let v17 : BitVec 1 := Scalar.cmpi .ne v16 c0_i32_4
  let v18 : BitVec 1 := Scalar.andi v15 v17
  let v4 : BitVec 32 := Scalar.divsi v2 c2_i32_0
  let c1_i32_5 : BitVec 32 := 1#32
  let v19 : BitVec 32 := Scalar.subi v4 c1_i32_5
  let v20 : BitVec 32 := Scalar.select v18 v19 v4
  let v38 : BitVec 32 := Scalar.muli c2_i32_20 v20
  let c2_i32 : BitVec 32 := 2#32
  let v3 : BitVec 32 := Scalar.remsi v2 c2_i32
  let v39 : BitVec 32 := Scalar.addi v38 v3
  let v255 : Index := Scalar.indexCast v39
  let c0_249 : Index := 0#32
  let c0_250 : Index := 0#32
  ![1, v255.toNat, 0, 0]
def k0_dev9 (d0 : Dev nD) : Nat :=
  let c0_i32_292 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v24 : BitVec 32 := Scalar.subi c3_i32 v2
  let c1_i32_291 : BitVec 32 := 1#32
  let v287 : BitVec 32 := Scalar.muli v24 c1_i32_291
  let v288 : BitVec 32 := Scalar.addi c0_i32_292 v287
  v288.toNat
def k0_dev10 (d0 : Dev nD) : Nat :=
  let c0_i32_306 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v21 : BitVec 32 := Scalar.addi v2 c1_i32_6
  let c2_i32_7 : BitVec 32 := 2#32
  let c2_i32 : BitVec 32 := 2#32
  let v3 : BitVec 32 := Scalar.remsi v2 c2_i32
  let v22 : BitVec 32 := Scalar.muli c2_i32_7 v3
  let v23 : BitVec 32 := Scalar.subi v21 v22
  let c1_i32_305 : BitVec 32 := 1#32
  let v297 : BitVec 32 := Scalar.muli v23 c1_i32_305
  let v298 : BitVec 32 := Scalar.addi c0_i32_306 v297
  v298.toNat
def k0_off13 (d0 : Dev nD) : Fin 2 → Nat :=
  let c2_i32_19 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.remsi v2 c2_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32_0 : BitVec 32 := 2#32
  let c0_i32_2 : BitVec 32 := 0#32
  let v10 : BitVec 1 := Scalar.cmpi .sgt c2_i32_0 c0_i32_2
  let v11 : BitVec 32 := Scalar.extui v10
  let c0_i32_3 : BitVec 32 := 0#32
  let v12 : BitVec 1 := Scalar.cmpi .slt c2_i32_0 c0_i32_3
  let v13 : BitVec 32 := Scalar.extui v12
  let v14 : BitVec 32 := Scalar.subi v11 v13
  let v15 : BitVec 1 := Scalar.cmpi .ne v9 v14
  let v16 : BitVec 32 := Scalar.remsi v2 c2_i32_0
  let c0_i32_4 : BitVec 32 := 0#32
  let v17 : BitVec 1 := Scalar.cmpi .ne v16 c0_i32_4
  let v18 : BitVec 1 := Scalar.andi v15 v17
  let v4 : BitVec 32 := Scalar.divsi v2 c2_i32_0
  let c1_i32_5 : BitVec 32 := 1#32
  let v19 : BitVec 32 := Scalar.subi v4 c1_i32_5
  let v20 : BitVec 32 := Scalar.select v18 v19 v4
  let v25 : BitVec 32 := Scalar.addi v3 v20
  let c2_i32_8 : BitVec 32 := 2#32
  let v26 : BitVec 32 := Scalar.remsi v25 c2_i32_8
  let v36 : BitVec 32 := Scalar.muli c2_i32_19 v26
  let v37 : BitVec 32 := Scalar.addi v36 v20
  let c256_i32_311 : BitVec 32 := 256#32
  let v307 : BitVec 32 := Scalar.muli v37 c256_i32_311
  let v308 : Index := Scalar.indexCast v307
  let c0_312 : Index := 0#32
  ![v308.toNat, 0]
def k0_dev11 (d0 : Dev nD) : Nat :=
  let c0_i32_348 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v21 : BitVec 32 := Scalar.addi v2 c1_i32_6
  let c2_i32_7 : BitVec 32 := 2#32
  let c2_i32 : BitVec 32 := 2#32
  let v3 : BitVec 32 := Scalar.remsi v2 c2_i32
  let v22 : BitVec 32 := Scalar.muli c2_i32_7 v3
  let v23 : BitVec 32 := Scalar.subi v21 v22
  let c1_i32_347 : BitVec 32 := 1#32
  let v331 : BitVec 32 := Scalar.muli v23 c1_i32_347
  let v332 : BitVec 32 := Scalar.addi c0_i32_348 v331
  v332.toNat
def k0_dev12 (d0 : Dev nD) : Nat :=
  let c0_i32_362 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v24 : BitVec 32 := Scalar.subi c3_i32 v2
  let c1_i32_361 : BitVec 32 := 1#32
  let v341 : BitVec 32 := Scalar.muli v24 c1_i32_361
  let v342 : BitVec 32 := Scalar.addi c0_i32_362 v341
  v342.toNat
def k0_off14 (d0 : Dev nD) : Fin 2 → Nat :=
  let c2_i32_20 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32_0 : BitVec 32 := 2#32
  let c0_i32_2 : BitVec 32 := 0#32
  let v10 : BitVec 1 := Scalar.cmpi .sgt c2_i32_0 c0_i32_2
  let v11 : BitVec 32 := Scalar.extui v10
  let c0_i32_3 : BitVec 32 := 0#32
  let v12 : BitVec 1 := Scalar.cmpi .slt c2_i32_0 c0_i32_3
  let v13 : BitVec 32 := Scalar.extui v12
  let v14 : BitVec 32 := Scalar.subi v11 v13
  let v15 : BitVec 1 := Scalar.cmpi .ne v9 v14
  let v16 : BitVec 32 := Scalar.remsi v2 c2_i32_0
  let c0_i32_4 : BitVec 32 := 0#32
  let v17 : BitVec 1 := Scalar.cmpi .ne v16 c0_i32_4
  let v18 : BitVec 1 := Scalar.andi v15 v17
  let v4 : BitVec 32 := Scalar.divsi v2 c2_i32_0
  let c1_i32_5 : BitVec 32 := 1#32
  let v19 : BitVec 32 := Scalar.subi v4 c1_i32_5
  let v20 : BitVec 32 := Scalar.select v18 v19 v4
  let v38 : BitVec 32 := Scalar.muli c2_i32_20 v20
  let c2_i32 : BitVec 32 := 2#32
  let v3 : BitVec 32 := Scalar.remsi v2 c2_i32
  let v39 : BitVec 32 := Scalar.addi v38 v3
  let c256_i32_367 : BitVec 32 := 256#32
  let v351 : BitVec 32 := Scalar.muli v39 c256_i32_367
  let v352 : Index := Scalar.indexCast v351
  let c512_368 : Index := 512#32
  ![v352.toNat, 512]
def k0_off15 (d0 : Dev nD) : Fin 2 → Nat :=
  let c2_i32_21 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.remsi v2 c2_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32_0 : BitVec 32 := 2#32
  let c0_i32_2 : BitVec 32 := 0#32
  let v10 : BitVec 1 := Scalar.cmpi .sgt c2_i32_0 c0_i32_2
  let v11 : BitVec 32 := Scalar.extui v10
  let c0_i32_3 : BitVec 32 := 0#32
  let v12 : BitVec 1 := Scalar.cmpi .slt c2_i32_0 c0_i32_3
  let v13 : BitVec 32 := Scalar.extui v12
  let v14 : BitVec 32 := Scalar.subi v11 v13
  let v15 : BitVec 1 := Scalar.cmpi .ne v9 v14
  let v16 : BitVec 32 := Scalar.remsi v2 c2_i32_0
  let c0_i32_4 : BitVec 32 := 0#32
  let v17 : BitVec 1 := Scalar.cmpi .ne v16 c0_i32_4
  let v18 : BitVec 1 := Scalar.andi v15 v17
  let v4 : BitVec 32 := Scalar.divsi v2 c2_i32_0
  let c1_i32_5 : BitVec 32 := 1#32
  let v19 : BitVec 32 := Scalar.subi v4 c1_i32_5
  let v20 : BitVec 32 := Scalar.select v18 v19 v4
  let v25 : BitVec 32 := Scalar.addi v3 v20
  let c2_i32_8 : BitVec 32 := 2#32
  let v26 : BitVec 32 := Scalar.remsi v25 c2_i32_8
  let v40 : BitVec 32 := Scalar.muli c2_i32_21 v26
  let c1_i32_22 : BitVec 32 := 1#32
  let v41 : BitVec 32 := Scalar.subi c1_i32_22 v20
  let v42 : BitVec 32 := Scalar.addi v40 v41
  let c256_i32_387 : BitVec 32 := 256#32
  let v365 : BitVec 32 := Scalar.muli v42 c256_i32_387
  let v366 : Index := Scalar.indexCast v365
  let c0_388 : Index := 0#32
  ![v366.toNat, 0]
def k0_dev13 (d0 : Dev nD) : Nat :=
  let c0_i32_397 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v21 : BitVec 32 := Scalar.addi v2 c1_i32_6
  let c2_i32_7 : BitVec 32 := 2#32
  let c2_i32 : BitVec 32 := 2#32
  let v3 : BitVec 32 := Scalar.remsi v2 c2_i32
  let v22 : BitVec 32 := Scalar.muli c2_i32_7 v3
  let v23 : BitVec 32 := Scalar.subi v21 v22
  let c1_i32_396 : BitVec 32 := 1#32
  let v368 : BitVec 32 := Scalar.muli v23 c1_i32_396
  let v369 : BitVec 32 := Scalar.addi c0_i32_397 v368
  v369.toNat
def k0_off16 (d0 : Dev nD) : Fin 2 → Nat :=
  let c2_i32_23 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32_0 : BitVec 32 := 2#32
  let c0_i32_2 : BitVec 32 := 0#32
  let v10 : BitVec 1 := Scalar.cmpi .sgt c2_i32_0 c0_i32_2
  let v11 : BitVec 32 := Scalar.extui v10
  let c0_i32_3 : BitVec 32 := 0#32
  let v12 : BitVec 1 := Scalar.cmpi .slt c2_i32_0 c0_i32_3
  let v13 : BitVec 32 := Scalar.extui v12
  let v14 : BitVec 32 := Scalar.subi v11 v13
  let v15 : BitVec 1 := Scalar.cmpi .ne v9 v14
  let v16 : BitVec 32 := Scalar.remsi v2 c2_i32_0
  let c0_i32_4 : BitVec 32 := 0#32
  let v17 : BitVec 1 := Scalar.cmpi .ne v16 c0_i32_4
  let v18 : BitVec 1 := Scalar.andi v15 v17
  let v4 : BitVec 32 := Scalar.divsi v2 c2_i32_0
  let c1_i32_5 : BitVec 32 := 1#32
  let v19 : BitVec 32 := Scalar.subi v4 c1_i32_5
  let v20 : BitVec 32 := Scalar.select v18 v19 v4
  let v43 : BitVec 32 := Scalar.muli c2_i32_23 v20
  let c1_i32_24 : BitVec 32 := 1#32
  let c2_i32 : BitVec 32 := 2#32
  let v3 : BitVec 32 := Scalar.remsi v2 c2_i32
  let v44 : BitVec 32 := Scalar.subi c1_i32_24 v3
  let v45 : BitVec 32 := Scalar.addi v43 v44
  let c256_i32_420 : BitVec 32 := 256#32
  let v389 : BitVec 32 := Scalar.muli v45 c256_i32_420
  let v390 : Index := Scalar.indexCast v389
  let c512_421 : Index := 512#32
  ![v390.toNat, 512]
def k0_dev14 (d0 : Dev nD) : Nat :=
  let c0_i32_431 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v24 : BitVec 32 := Scalar.subi c3_i32 v2
  let c1_i32_430 : BitVec 32 := 1#32
  let v392 : BitVec 32 := Scalar.muli v24 c1_i32_430
  let v393 : BitVec 32 := Scalar.addi c0_i32_431 v392
  v393.toNat
def k0_off17 (d0 : Dev nD) : Fin 2 → Nat :=
  let c2_i32_16 : BitVec 32 := 2#32
  let c1_i32_15 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.remsi v2 c2_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32_0 : BitVec 32 := 2#32
  let c0_i32_2 : BitVec 32 := 0#32
  let v10 : BitVec 1 := Scalar.cmpi .sgt c2_i32_0 c0_i32_2
  let v11 : BitVec 32 := Scalar.extui v10
  let c0_i32_3 : BitVec 32 := 0#32
  let v12 : BitVec 1 := Scalar.cmpi .slt c2_i32_0 c0_i32_3
  let v13 : BitVec 32 := Scalar.extui v12
  let v14 : BitVec 32 := Scalar.subi v11 v13
  let v15 : BitVec 1 := Scalar.cmpi .ne v9 v14
  let v16 : BitVec 32 := Scalar.remsi v2 c2_i32_0
  let c0_i32_4 : BitVec 32 := 0#32
  let v17 : BitVec 1 := Scalar.cmpi .ne v16 c0_i32_4
  let v18 : BitVec 1 := Scalar.andi v15 v17
  let v4 : BitVec 32 := Scalar.divsi v2 c2_i32_0
  let c1_i32_5 : BitVec 32 := 1#32
  let v19 : BitVec 32 := Scalar.subi v4 c1_i32_5
  let v20 : BitVec 32 := Scalar.select v18 v19 v4
  let v25 : BitVec 32 := Scalar.addi v3 v20
  let c2_i32_8 : BitVec 32 := 2#32
  let v26 : BitVec 32 := Scalar.remsi v25 c2_i32_8
  let v32 : BitVec 32 := Scalar.subi c1_i32_15 v26
  let v33 : BitVec 32 := Scalar.muli c2_i32_16 v32
  let v413 : BitVec 32 := Scalar.addi v33 v20
  let c256_i32_453 : BitVec 32 := 256#32
  let v414 : BitVec 32 := Scalar.muli v413 c256_i32_453
  let v415 : Index := Scalar.indexCast v414
  let c0_454 : Index := 0#32
  ![v415.toNat, 0]
def k0_off18 (d0 : Dev nD) : Fin 2 → Nat :=
  let c2_i32_18 : BitVec 32 := 2#32
  let c1_i32_17 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32_0 : BitVec 32 := 2#32
  let c0_i32_2 : BitVec 32 := 0#32
  let v10 : BitVec 1 := Scalar.cmpi .sgt c2_i32_0 c0_i32_2
  let v11 : BitVec 32 := Scalar.extui v10
  let c0_i32_3 : BitVec 32 := 0#32
  let v12 : BitVec 1 := Scalar.cmpi .slt c2_i32_0 c0_i32_3
  let v13 : BitVec 32 := Scalar.extui v12
  let v14 : BitVec 32 := Scalar.subi v11 v13
  let v15 : BitVec 1 := Scalar.cmpi .ne v9 v14
  let v16 : BitVec 32 := Scalar.remsi v2 c2_i32_0
  let c0_i32_4 : BitVec 32 := 0#32
  let v17 : BitVec 1 := Scalar.cmpi .ne v16 c0_i32_4
  let v18 : BitVec 1 := Scalar.andi v15 v17
  let v4 : BitVec 32 := Scalar.divsi v2 c2_i32_0
  let c1_i32_5 : BitVec 32 := 1#32
  let v19 : BitVec 32 := Scalar.subi v4 c1_i32_5
  let v20 : BitVec 32 := Scalar.select v18 v19 v4
  let v34 : BitVec 32 := Scalar.subi c1_i32_17 v20
  let v35 : BitVec 32 := Scalar.muli c2_i32_18 v34
  let c1_i32_26 : BitVec 32 := 1#32
  let c2_i32 : BitVec 32 := 2#32
  let v3 : BitVec 32 := Scalar.remsi v2 c2_i32
  let v47 : BitVec 32 := Scalar.subi c1_i32_26 v3
  let v428 : BitVec 32 := Scalar.addi v35 v47
  let c256_i32_473 : BitVec 32 := 256#32
  let v429 : BitVec 32 := Scalar.muli v428 c256_i32_473
  let v430 : Index := Scalar.indexCast v429
  let c512_474 : Index := 512#32
  ![v430.toNat, 512]
def k0_off19 (d0 : Dev nD) : Fin 2 → Nat :=
  let c2_i32_16 : BitVec 32 := 2#32
  let c1_i32_15 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v3 : BitVec 32 := Scalar.remsi v2 c2_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32_0 : BitVec 32 := 2#32
  let c0_i32_2 : BitVec 32 := 0#32
  let v10 : BitVec 1 := Scalar.cmpi .sgt c2_i32_0 c0_i32_2
  let v11 : BitVec 32 := Scalar.extui v10
  let c0_i32_3 : BitVec 32 := 0#32
  let v12 : BitVec 1 := Scalar.cmpi .slt c2_i32_0 c0_i32_3
  let v13 : BitVec 32 := Scalar.extui v12
  let v14 : BitVec 32 := Scalar.subi v11 v13
  let v15 : BitVec 1 := Scalar.cmpi .ne v9 v14
  let v16 : BitVec 32 := Scalar.remsi v2 c2_i32_0
  let c0_i32_4 : BitVec 32 := 0#32
  let v17 : BitVec 1 := Scalar.cmpi .ne v16 c0_i32_4
  let v18 : BitVec 1 := Scalar.andi v15 v17
  let v4 : BitVec 32 := Scalar.divsi v2 c2_i32_0
  let c1_i32_5 : BitVec 32 := 1#32
  let v19 : BitVec 32 := Scalar.subi v4 c1_i32_5
  let v20 : BitVec 32 := Scalar.select v18 v19 v4
  let v25 : BitVec 32 := Scalar.addi v3 v20
  let c2_i32_8 : BitVec 32 := 2#32
  let v26 : BitVec 32 := Scalar.remsi v25 c2_i32_8
  let v32 : BitVec 32 := Scalar.subi c1_i32_15 v26
  let v33 : BitVec 32 := Scalar.muli c2_i32_16 v32
  let c1_i32_25 : BitVec 32 := 1#32
  let v46 : BitVec 32 := Scalar.subi c1_i32_25 v20
  let v443 : BitVec 32 := Scalar.addi v33 v46
  let c256_i32_492 : BitVec 32 := 256#32
  let v444 : BitVec 32 := Scalar.muli v443 c256_i32_492
  let v445 : Index := Scalar.indexCast v444
  let c0_493 : Index := 0#32
  ![v445.toNat, 0]
def k0_off20 (d0 : Dev nD) : Fin 2 → Nat :=
  let c2_i32_18 : BitVec 32 := 2#32
  let c1_i32_17 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c2_i32_0 : BitVec 32 := 2#32
  let c0_i32_2 : BitVec 32 := 0#32
  let v10 : BitVec 1 := Scalar.cmpi .sgt c2_i32_0 c0_i32_2
  let v11 : BitVec 32 := Scalar.extui v10
  let c0_i32_3 : BitVec 32 := 0#32
  let v12 : BitVec 1 := Scalar.cmpi .slt c2_i32_0 c0_i32_3
  let v13 : BitVec 32 := Scalar.extui v12
  let v14 : BitVec 32 := Scalar.subi v11 v13
  let v15 : BitVec 1 := Scalar.cmpi .ne v9 v14
  let v16 : BitVec 32 := Scalar.remsi v2 c2_i32_0
  let c0_i32_4 : BitVec 32 := 0#32
  let v17 : BitVec 1 := Scalar.cmpi .ne v16 c0_i32_4
  let v18 : BitVec 1 := Scalar.andi v15 v17
  let v4 : BitVec 32 := Scalar.divsi v2 c2_i32_0
  let c1_i32_5 : BitVec 32 := 1#32
  let v19 : BitVec 32 := Scalar.subi v4 c1_i32_5
  let v20 : BitVec 32 := Scalar.select v18 v19 v4
  let v34 : BitVec 32 := Scalar.subi c1_i32_17 v20
  let v35 : BitVec 32 := Scalar.muli c2_i32_18 v34
  let c2_i32 : BitVec 32 := 2#32
  let v3 : BitVec 32 := Scalar.remsi v2 c2_i32
  let v458 : BitVec 32 := Scalar.addi v35 v3
  let c256_i32_512 : BitVec 32 := 256#32
  let v459 : BitVec 32 := Scalar.muli v458 c256_i32_512
  let v460 : Index := Scalar.indexCast v459
  let c512_513 : Index := 512#32
  ![v460.toNat, 512]
abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Plan.lean ====
/-
# The plan of the four-device product: who talks to whom, and what every message holds

Four devices. Device `c` starts with 256 columns of `x` and the matching 256 rows of `w`; every device must end with
`relu (x · w)`, which is the sum over the four devices of their partial products. The result is worked on in two column
halves `h = 0, 1` of 512 columns, and each half in four row blocks of 256 rows. A device has two neighbours,
`c xor 1` and `3 - c`; half 0 meets `c xor 1` first and `3 - c` second, half 1 the other way round.

For each half `h` there are six messages (slots `s = 0 … 5`), copied from a device to one of its two neighbours:

* slots 0, 1 (first neighbour): the device's partial products of the two row blocks it does not keep;
* slot 2 (second neighbour): of the two blocks it keeps, the one it forwards, with the first neighbour's slot-0 part added;
* slot 3 (second neighbour) and slot 4 (first neighbour): the finished block (all four parts added, then relu);
* slot 5 (first neighbour): the finished block received in slot 3, passed on.

Semaphores, and what each hands over:

* the barrier semaphore of device `c`: one unit from each neighbour, waited for once (2). A neighbour's unit hands `c`
  the landing slots on that neighbour that `c` will write;
* the receive semaphore `(h, s)` of device `c`: paid by the copy of slot `(h, s)` issued by `c`'s neighbour `peer c h s`;
  its wait hands `c` the landing slot holding that neighbour's message;
* the send semaphore `(h, s)` of device `c`: paid by `c`'s own copy of slot `(h, s)`; its wait hands back the source.

Every semaphore is used for one round. Order on each device: the barrier, then the sends
(0,0) (1,0) (0,1) (1,1), receives (0,0) send (0,2), receive (1,0) send (1,2), receives (0,1) (1,1) (0,2),
sends (0,3) (0,4), receive (1,2), sends (1,3) (1,4), receive (0,3) send (0,5), receive (1,3) send (1,5),
receives (0,4) (1,4) (0,5) (1,5), and at the end the twelve send waits. A wait for slot `s` happens while only
messages of a later stage are still owed (stages: barrier; slots 0, 1; slot 2; slots 3, 4; slot 5), so no cycle of
waiting devices can arise.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.ValueIdxCore

@[expose] public section

set_option maxRecDepth 16384

noncomputable section

namespace Cert.KernelIdeal.Ring

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Neighbours -/

set_option backward.proofsInPublic true in
/-- The neighbour with the lowest bit flipped. -/
def pA (c : Dev nD) : Dev nD := ⟨if c.val % 2 = 0 then c.val + 1 else c.val - 1, by have h : c.val < 4 := c.isLt; show _ < 4; split <;> omega⟩
set_option backward.proofsInPublic true in
/-- The opposite neighbour. -/
def pB (c : Dev nD) : Dev nD := ⟨3 - c.val, by show _ < 4; omega⟩
/-- The neighbour named by a flag. -/
def nb (b : Bool) (c : Dev nD) : Dev nD := if b then pB c else pA c

/-- A neighbour's neighbour in the same direction is the device itself. -/
theorem nb_nb (b : Bool) (c : Dev nD) : nb b (nb b c) = c := by revert b c; decide
/-- The two directions commute. -/
theorem nb_comm (b b' : Bool) (c : Dev nD) : nb b (nb b' c) = nb b' (nb b c) := by revert b b' c; decide

/-- A neighbour relation is a permutation of the devices. -/
def nbEquiv (b : Bool) : Dev nD ≃ Dev nD := ⟨nb b, nb b, nb_nb b, nb_nb b⟩

/-- The neighbour half `h` meets first. -/
def via1 (h : Fin 2) : Bool := decide (h = 1)
/-- The neighbour half `h` meets second. -/
def via2 (h : Fin 2) : Bool := decide (h = 0)
/-- Which neighbour the message in slot `s` of half `h` goes to (and comes from). -/
def via (h : Fin 2) (s : Fin 6) : Bool := if s = 2 ∨ s = 3 then via2 h else via1 h
/-- The first neighbour of device `c` in half `h`. -/
abbrev p1 (c : Dev nD) (h : Fin 2) : Dev nD := nb (via1 h) c
/-- The second neighbour of device `c` in half `h`. -/
abbrev p2 (c : Dev nD) (h : Fin 2) : Dev nD := nb (via2 h) c
/-- The neighbour at the other end of slot `(h, s)`. -/
abbrev peer (c : Dev nD) (h : Fin 2) (s : Fin 6) : Dev nD := nb (via h s) c

/-- The devices the program names: its two signals, then its twelve copies. -/
theorem dev1_eq : ∀ c : Dev nD, (⟨k0_dev1 c, k0_dev1_lt c⟩ : Dev nD) = nb false c := by decide +kernel
theorem dev2_eq : ∀ c : Dev nD, (⟨k0_dev2 c, k0_dev2_lt c⟩ : Dev nD) = nb true c := by decide +kernel
theorem dev3_eq : ∀ c : Dev nD, (⟨k0_dev3 c, k0_dev3_lt c⟩ : Dev nD) = peer c 0 0 := by decide +kernel
theorem dev4_eq : ∀ c : Dev nD, (⟨k0_dev4 c, k0_dev4_lt c⟩ : Dev nD) = peer c 1 0 := by decide +kernel
theorem dev5_eq : ∀ c : Dev nD, (⟨k0_dev5 c, k0_dev5_lt c⟩ : Dev nD) = peer c 0 1 := by decide +kernel
theorem dev6_eq : ∀ c : Dev nD, (⟨k0_dev6 c, k0_dev6_lt c⟩ : Dev nD) = peer c 1 1 := by decide +kernel
theorem dev7_eq : ∀ c : Dev nD, (⟨k0_dev7 c, k0_dev7_lt c⟩ : Dev nD) = peer c 0 2 := by decide +kernel
theorem dev8_eq : ∀ c : Dev nD, (⟨k0_dev8 c, k0_dev8_lt c⟩ : Dev nD) = peer c 1 2 := by decide +kernel
theorem dev9_eq : ∀ c : Dev nD, (⟨k0_dev9 c, k0_dev9_lt c⟩ : Dev nD) = peer c 0 3 := by decide +kernel
theorem dev10_eq : ∀ c : Dev nD, (⟨k0_dev10 c, k0_dev10_lt c⟩ : Dev nD) = peer c 0 4 := by decide +kernel
theorem dev11_eq : ∀ c : Dev nD, (⟨k0_dev11 c, k0_dev11_lt c⟩ : Dev nD) = peer c 1 3 := by decide +kernel
theorem dev12_eq : ∀ c : Dev nD, (⟨k0_dev12 c, k0_dev12_lt c⟩ : Dev nD) = peer c 1 4 := by decide +kernel
theorem dev13_eq : ∀ c : Dev nD, (⟨k0_dev13 c, k0_dev13_lt c⟩ : Dev nD) = peer c 0 5 := by decide +kernel
theorem dev14_eq : ∀ c : Dev nD, (⟨k0_dev14 c, k0_dev14_lt c⟩ : Dev nD) = peer c 1 5 := by decide +kernel

/-! ## Row blocks -/

/-- The row block of half `h` that device `c` finishes. -/
def own (h : Fin 2) (c : Dev nD) : Fin 4 := (![![0, 2, 3, 1], ![0, 1, 2, 3]] : Fin 2 → Fin 4 → Fin 4) h c
/-- The other block it keeps, forwarded to its second neighbour. -/
def fwd (h : Fin 2) (c : Dev nD) : Fin 4 := own h (p2 c h)
/-- The block its first neighbour forwards. -/
def fst (h : Fin 2) (c : Dev nD) : Fin 4 := fwd h (p1 c h)
/-- The block its first neighbour finishes. -/
def snd (h : Fin 2) (c : Dev nD) : Fin 4 := own h (p1 c h)
/-- The first of the two adjacent blocks it keeps. -/
def keep (h : Fin 2) (c : Dev nD) : Fin 3 := ⟨2 * ((own h c).val / 2), by have := (own h c).isLt; omega⟩
/-- The place of the finished block in the kept pair. -/
def ownI (h : Fin 2) (c : Dev nD) : Fin 2 := ⟨(own h c).val % 2, Nat.mod_lt _ (by decide)⟩
/-- The place of the forwarded block in the kept pair. -/
def fwdI (h : Fin 2) (c : Dev nD) : Fin 2 := ⟨(fwd h c).val % 2, Nat.mod_lt _ (by decide)⟩

/-- The finished block's row block is the pair's first plus its place. -/
theorem keep_own : ∀ h c, (own h c).val = (keep h c).val + (ownI h c).val := by decide
/-- The forwarded block's row block is the pair's first plus its place. -/
theorem keep_fwd : ∀ h c, (fwd h c).val = (keep h c).val + (fwdI h c).val := by decide
/-- The finished block is not the forwarded one. -/
theorem own_ne_fwd : ∀ h c, own h c ≠ fwd h c := by decide
/-- The four blocks of a half: finished here, by the second neighbour, by the first, and by the opposite device. -/
theorem block_cases : ∀ h c (b : Fin 4), b = own h c ∨ b = fwd h c ∨ b = snd h c ∨ b = fst h c := by decide
/-- The finished block is none of the two sent away, nor is the forwarded one, and these two differ. -/
theorem own_ne_snd : ∀ h c, own h c ≠ snd h c := by decide
theorem own_ne_fst : ∀ h c, own h c ≠ fst h c := by decide
theorem fwd_ne_snd : ∀ h c, fwd h c ≠ snd h c := by decide
theorem fwd_ne_fst : ∀ h c, fwd h c ≠ fst h c := by decide
theorem snd_ne_fst : ∀ h c, snd h c ≠ fst h c := by decide

/-- The program's computed offsets, in row blocks. -/
theorem off1_eq : ∀ c : Dev nD, k0_off1 c = ![256 * (fst 0 c).val, 0] := by decide +kernel
theorem off2_eq : ∀ c : Dev nD, k0_off2 c = ![256 * (fst 1 c).val, 0] := by decide +kernel
theorem off3_eq : ∀ c : Dev nD, k0_off3 c = ![256 * (snd 0 c).val, 0] := by decide +kernel
theorem off4_eq : ∀ c : Dev nD, k0_off4 c = ![256 * (snd 1 c).val, 0] := by decide +kernel
theorem off5_eq : ∀ c : Dev nD, k0_off5 c = ![256 * (keep 0 c).val, 0] := by decide +kernel
theorem off6_eq : ∀ c : Dev nD, k0_off6 c = ![((0 : Fin 2) : ℕ), (keep 0 c).val, 0, 0] := by decide +kernel
theorem off7_eq : ∀ c : Dev nD, k0_off7 c = ![256 * (keep 1 c).val, 0] := by decide +kernel
theorem off8_eq : ∀ c : Dev nD, k0_off8 c = ![((1 : Fin 2) : ℕ), (keep 1 c).val, 0, 0] := by decide +kernel
theorem off9_eq : ∀ c : Dev nD, k0_off9 c = ![((0 : Fin 2) : ℕ), (fwd 0 c).val, 0, 0] := by decide +kernel
theorem off10_eq : ∀ c : Dev nD, k0_off10 c = ![((1 : Fin 2) : ℕ), (fwd 1 c).val, 0, 0] := by decide +kernel
theorem off11_eq : ∀ c : Dev nD, k0_off11 c = ![((0 : Fin 2) : ℕ), (own 0 c).val, 0, 0] := by decide +kernel
theorem off12_eq : ∀ c : Dev nD, k0_off12 c = ![((1 : Fin 2) : ℕ), (own 1 c).val, 0, 0] := by decide +kernel
theorem off13_eq : ∀ c : Dev nD, k0_off13 c = ![256 * (own 0 c).val, 512 * ((0 : Fin 2) : ℕ)] := by decide +kernel
theorem off14_eq : ∀ c : Dev nD, k0_off14 c = ![256 * (own 1 c).val, 512 * ((1 : Fin 2) : ℕ)] := by decide +kernel
theorem off15_eq : ∀ c : Dev nD, k0_off15 c = ![256 * (fwd 0 c).val, 512 * ((0 : Fin 2) : ℕ)] := by decide +kernel
theorem off16_eq : ∀ c : Dev nD, k0_off16 c = ![256 * (fwd 1 c).val, 512 * ((1 : Fin 2) : ℕ)] := by decide +kernel
theorem off17_eq : ∀ c : Dev nD, k0_off17 c = ![256 * (snd 0 c).val, 512 * ((0 : Fin 2) : ℕ)] := by decide +kernel
theorem off18_eq : ∀ c : Dev nD, k0_off18 c = ![256 * (snd 1 c).val, 512 * ((1 : Fin 2) : ℕ)] := by decide +kernel
theorem off19_eq : ∀ c : Dev nD, k0_off19 c = ![256 * (fst 0 c).val, 512 * ((0 : Fin 2) : ℕ)] := by decide +kernel
theorem off20_eq : ∀ c : Dev nD, k0_off20 c = ![256 * (fst 1 c).val, 512 * ((1 : Fin 2) : ℕ)] := by decide +kernel

/-! ## What the loads read: blocks of a buffer's contents -/

/-- What a device's part of `x` holds. -/
abbrev XC (F : FTy → Type) : Type := Vec F S1024x256 .f32
/-- What a device's part of `w` holds. -/
abbrev WC (F : FTy → Type) : Type := Vec F S256x1024 .f32
/-- What a device's result holds. -/
abbrev OC (F : FTy → Type) : Type := Vec F S1024x1024 .f32
/-- What the accumulator holds. -/
abbrev AC (F : FTy → Type) : Type := Vec F S2x4x256x512 .f32
/-- What one slot of the send or the landing buffer holds: one message. -/
abbrev Slot (F : FTy → Type) : Type := Vec F S1x1x256x512 .bf16

set_option backward.proofsInPublic true in
/-- Rows `256 b …` of `x`, 256 of them. -/
def xB (X : XC F) (b : Fin 4) : Vec F S256x256 .f32 := fun j =>
  X (ix2 ⟨256 * b.val + (j 0).val, by have := b.isLt; have := idx2_lt0 j; omega⟩ (j 1))
set_option backward.proofsInPublic true in
/-- Rows `256 k …` of `x`, 512 of them. -/
def xB2 (X : XC F) (k : Fin 3) : Vec F S512x256 .f32 := fun j =>
  X (ix2 ⟨256 * k.val + (j 0).val, by have := k.isLt; have := idx2_lt0 j; omega⟩ (j 1))
set_option backward.proofsInPublic true in
/-- Column half `h` of `w`. -/
def wB (W : WC F) (h : Fin 2) : Vec F S256x512 .f32 := fun j =>
  W (ix2 (j 0) ⟨512 * h.val + (j 1).val, by have := h.isLt; have := idx2_lt1 j; omega⟩)
/-- Block `(h, b)` of the accumulator. -/
def accBlk (A : AC F) (h : Fin 2) (b : Fin 4) : Vec F S1x1x256x512 .f32 := fun j => A (ix4 h b (j 2) (j 3))
/-- The accumulator with block `(h, b)` replaced. -/
def accSet (A : AC F) (h : Fin 2) (b : Fin 4) (v : Vec F S1x1x256x512 .f32) : AC F := fun j =>
  if (j 0).val = h.val ∧ (j 1).val = b.val then v (ix4 0 0 (j 2) (j 3)) else A j
set_option backward.proofsInPublic true in
/-- The accumulator with the two blocks `(h, k)`, `(h, k + 1)` replaced. -/
def accSet2 (A : AC F) (h : Fin 2) (k : Fin 3) (v : Vec F S1x2x256x512 .f32) : AC F := fun j =>
  if hj : (j 0).val = h.val ∧ k.val ≤ (j 1).val ∧ (j 1).val < k.val + 2 then v (ix4 0 ⟨(j 1).val - k.val, by omega⟩ (j 2) (j 3)) else A j
set_option backward.proofsInPublic true in
/-- The result with row block `b` of column half `h` replaced. -/
def outSet (O : OC F) (h : Fin 2) (b : Fin 4) (v : Vec F S256x512 .f32) : OC F := fun j =>
  if (j 0).val / 256 = b.val ∧ (j 1).val / 512 = h.val then
    v (ix2 ⟨(j 0).val % 256, Nat.mod_lt _ (by decide)⟩ ⟨(j 1).val % 512, Nat.mod_lt _ (by decide)⟩) else O j

/-! ## The messages and results, in terms of each device's `x` and `w` -/

variable (X : Dev nD → XC F) (W : Dev nD → WC F)

/-- A partial product of one row block and one column half, as it is sent. -/
def part (c : Dev nD) (h : Fin 2) (b : Fin 4) : Slot F := k0_pay1 (xB (X c) b) (wB (W c) h)
/-- The partial products of the two kept blocks. -/
def kept (c : Dev nD) (h : Fin 2) : Vec F S1x2x256x512 .f32 := k0_pay8 (xB2 (X c) (keep h c)) (wB (W c) h)
/-- The kept partial product at place `i` of the pair. -/
def keptI (c : Dev nD) (h : Fin 2) (i : Fin 2) : Vec F S1x1x256x512 .f32 := fun j => kept X W c h (ix4 0 i (j 2) (j 3))
/-- The message of slot 2: the forwarded block with the first neighbour's part added. -/
def msg2 (c : Dev nD) (h : Fin 2) : Slot F := k0_pay11 (keptI X W c h (fwdI h c)) (part X W (p1 c h) h (fst h (p1 c h)))
/-- The finished block before the second neighbour's part. -/
def own1 (c : Dev nD) (h : Fin 2) : Vec F S1x1x256x512 .f32 :=
  k0_pay12 (keptI X W c h (ownI h c)) (part X W (p1 c h) h (snd h (p1 c h)))
/-- The finished block. -/
def blk (c : Dev nD) (h : Fin 2) : Vec F S256x512 .f32 := k0_pay16 (own1 X W c h) (msg2 X W (p2 c h) h)
/-- The finished block as the message of slots 3 and 4. -/
def msg3 (c : Dev nD) (h : Fin 2) : Slot F := k0_pay17 (own1 X W c h) (msg2 X W (p2 c h) h)

/-- The message device `c` sends in slot `(h, s)`. -/
def src (c : Dev nD) (h : Fin 2) (s : Fin 6) : Slot F :=
  match s with
  | 0 => part X W c h (fst h c)
  | 1 => part X W c h (snd h c)
  | 2 => msg2 X W c h
  | 3 => msg3 X W c h
  | 4 => msg3 X W c h
  | 5 => msg3 X W (p2 c h) h
/-- The message that lands on device `c` in slot `(h, s)`. -/
def land (c : Dev nD) (h : Fin 2) (s : Fin 6) : Slot F := src X W (peer c h s) h s

/-- The result left on device `c`, over what its buffer held before: eight blocks, in the order they are written. -/
def result (c : Dev nD) (O : OC F) : OC F :=
  outSet (outSet (outSet (outSet (outSet (outSet (outSet (outSet O
    0 (own 0 c) (blk X W c 0)) 1 (own 1 c) (blk X W c 1))
    0 (fwd 0 c) (k0_pay18 (land X W c 0 3))) 1 (fwd 1 c) (k0_pay18 (land X W c 1 3)))
    0 (snd 0 c) (k0_pay18 (land X W c 0 4))) 1 (snd 1 c) (k0_pay18 (land X W c 1 4)))
    0 (fst 0 c) (k0_pay18 (land X W c 0 5))) 1 (fst 1 c) (k0_pay18 (land X W c 1 5))

/-! ## The buffers, slots and semaphores -/

/-- The staged `x`, the staged `w`, the result, the accumulator, the landing buffer and the send buffer, each whole. -/
abbrev xM : Memref sig .tc .vmem S1024x256 .f32 := Memref.whole cc0_stg0_0
abbrev wM : Memref sig .tc .vmem S256x1024 .f32 := Memref.whole cc0_stg1_0
abbrev oM : Memref sig .tc .vmem S1024x1024 .f32 := Memref.whole cc0_stg2_0
abbrev aM : Memref sig .tc .vmem S2x4x256x512 .f32 := Memref.whole cc0_scratch0
abbrev rM : Memref sig .tc .vmem S2x6x256x512 .bf16 := Memref.whole cc0_scratch1
abbrev bM : Memref sig .tc .vmem S2x4x256x512 .bf16 := Memref.whole cc0_scratch2

/-- Every slot of the landing buffer lies inside it. -/
theorem rSlot_inb (h : Fin 2) (s : Fin 6) : ∀ a, (![h.val, s.val, 0, 0] : Fin 4 → ℕ) a + S1x1x256x512.size a ≤ S2x6x256x512.size a := by
  revert h s; decide
/-- Every slot of the send buffer lies inside it. -/
theorem bSlot_inb (h : Fin 2) (s : Fin 4) : ∀ a, (![h.val, s.val, 0, 0] : Fin 4 → ℕ) a + S1x1x256x512.size a ≤ S2x4x256x512.size a := by
  revert h s; decide
/-- The rectangle of slot `(h, s)` of the landing buffer. -/
abbrev rRect (h : Fin 2) (s : Fin 6) : Rect S2x6x256x512 := Rect.unit (s := S2x6x256x512) ![h.val, s.val, 0, 0] S1x1x256x512.size (rSlot_inb h s)
/-- The rectangle of slot `(h, s)` of the send buffer. -/
abbrev bRect (h : Fin 2) (s : Fin 4) : Rect S2x4x256x512 := Rect.unit (s := S2x4x256x512) ![h.val, s.val, 0, 0] S1x1x256x512.size (bSlot_inb h s)
/-- Slot `(h, s)` of the landing buffer. -/
abbrev rSlot (h : Fin 2) (s : Fin 6) : Memref sig .tc .vmem S1x1x256x512 .bf16 := rM.slice (rRect h s) (fun _ => rfl)
/-- Slot `(h, s)` of the send buffer. -/
abbrev bSlot (h : Fin 2) (s : Fin 4) : Memref sig .tc .vmem S1x1x256x512 .bf16 := bM.slice (bRect h s) (fun _ => rfl)
/-- A slot without its two unit axes. -/
abbrev flat (M : Memref sig .tc .vmem S1x1x256x512 .bf16) : Memref sig .tc .vmem S256x512 .bf16 :=
  M.squeeze S256x512 squeezes_S1x1x256x512_S256x512

/-- The slot the copy `(h, s)` reads. -/
def srcSlot (h : Fin 2) (s : Fin 6) : Memref sig .tc .vmem S1x1x256x512 .bf16 :=
  match s with
  | 0 => bSlot h 0
  | 1 => bSlot h 1
  | 2 => bSlot h 2
  | 3 => bSlot h 3
  | 4 => bSlot h 3
  | 5 => rSlot h 3
/-- The share of it the copy borrows: slots 3 and 4 read the same block at once, half each. -/
def srcShare (s : Fin 6) : PosShare TreeShare :=
  match s with
  | 3 => fullShare.left
  | 4 => fullShare.right
  | _ => fullShare

/-- Every semaphore `(h, s)` lies inside its array. -/
theorem sem_inb (h : Fin 2) (s : Fin 6) : ∀ a, (![h.val, s.val] : Fin 2 → ℕ) a + S1x1.size a ≤ S2x6.size a := by
  revert h s; decide
/-- The barrier semaphore. -/
abbrev barS : Sem sig := (SemArray.scalar (sig.barrier 0 rfl) : Sems sig S_).sem
/-- The send semaphore of slot `(h, s)`. -/
abbrev sendS (h : Fin 2) (s : Fin 6) : DmaSem sig :=
  (((cc0_scratch3 : DmaSems sig S2x6).slice (Rect.unit (s := S2x6) ![h.val, s.val] S1x1.size (sem_inb h s))).squeeze S_ squeezes_S1x1_S_).sem
/-- The receive semaphore of slot `(h, s)`. -/
abbrev recvS (h : Fin 2) (s : Fin 6) : DmaSem sig :=
  (((cc0_scratch4 : DmaSems sig S2x6).slice (Rect.unit (s := S2x6) ![h.val, s.val] S1x1.size (sem_inb h s))).squeeze S_ squeezes_S1x1_S_).sem

/-- The 25 semaphores of a device: the barrier (`none`), the sends (`false`) and the receives (`true`). -/
abbrev CI : Type := Option (Bool × Fin 2 × Fin 6)
/-- The semaphore that each of the 25 names stands for. -/
abbrev csem : CI → SemLoc sig
  | none => .reg barS
  | some (false, h, s) => .dma (sendS h s)
  | some (true, h, s) => .dma (recvS h s)
/-- Which of the 25 a semaphore is. -/
def cix : SemLoc sig → CI
  | .reg _ => none
  | .dma n => some (decide (15 ≤ n.val), ⟨(n.val - 3) / 6 % 2, Nat.mod_lt _ (by decide)⟩, ⟨(n.val - 3) % 6, Nat.mod_lt _ (by decide)⟩)
/-- The name of a named semaphore is its name. -/
theorem cix_csem : ∀ i : CI, cix (csem i) = i := by decide +kernel
/-- Different names stand for different semaphores. -/
theorem csem_injective : Function.Injective csem := fun i j h => by rw [← cix_csem i, h, cix_csem]

/-- Device `c`'s semaphores. -/
abbrev kcell (ci : Dev nD × CI) : GSem nD τ sig := ((ci.1 : Thread nD τ), csem ci.2)
/-- The barrier semaphore of device `c`. -/
abbrev barCell (c : Dev nD) : GSem nD τ sig := kcell (c, none)
/-- The send semaphore `(h, s)` of device `c`. -/
abbrev sendCell (c : Dev nD) (h : Fin 2) (s : Fin 6) : GSem nD τ sig := kcell (c, some (false, h, s))
/-- The receive semaphore `(h, s)` of device `c`. -/
abbrev recvCell (c : Dev nD) (h : Fin 2) (s : Fin 6) : GSem nD τ sig := kcell (c, some (true, h, s))

/-- What one message pays. -/
abbrev N : ℕ := (flat (rSlot 0 0)).view.dmaCredit
/-- A message pays something. -/
theorem N_pos : 0 < N := View.dmaCredit_pos _ (by decide)

end Cert.KernelIdeal.Ring
-- ==== Proof.Reads.lean ====
/-
# What the loads and stores do

Each load of the program through a computed window reads one of the blocks named in `Proof.Plan`, and each store
replaces one; a slot seen without its unit axes covers the same elements.
-/
module

public import proofs.«01_k».proof.Proof.Plan
public import Idealize.ShloMosaic.Lib.Pipeline.ValueKit.Geometry

@[expose] public section

set_option maxRecDepth 16384

noncomputable section

namespace Cert.KernelIdeal.Ring

open Cert.KernelIdeal Cert.KernelIdeal.Gen
open Idealize.ShloMosaic
open Idealize.ShloMosaic.TcCoe
open Idealize.ShloMosaic.ValueIdx

variable {F : FTy → Type} [FloatOps F]

/-- A store through a unit-stride window of a whole buffer: an element of the window holds the stored vector's. -/
theorem write_hit (b : Ref sig .tc) (off size : Fin b.ty.shape.rank → ℕ) (inb) (f : b.ty.Contents (Elt F))
    (w : (Rect.unit off size inb).shape.Idx → Elt F b.ty.elt) (i : b.ty.Idx) (j : (Rect.unit off size inb).shape.Idx)
    (hj : ∀ a, (i a).val = off a + (j a).val) :
    ((Memref.whole b).access (Rect.unit off size inb)).write (Elt F) f w Finset.univ i = w j := by
  have hi : i = ((View.whole b).slice (Rect.unit off size inb)).emb j :=
    funext fun a => Fin.ext (by rw [ValueKit.view_emb_slice_whole_unit_val]; exact hj a)
  subst hi
  exact View.write_emb_of_mem _ _ (Finset.mem_univ j)

/-- An element outside the window is unchanged. -/
theorem write_miss (b : Ref sig .tc) (off size : Fin b.ty.shape.rank → ℕ) (inb) (f : b.ty.Contents (Elt F))
    (w : (Rect.unit off size inb).shape.Idx → Elt F b.ty.elt) (i : b.ty.Idx) (a : Fin b.ty.shape.rank)
    (ha : (i a).val < off a ∨ off a + size a ≤ (i a).val) :
    ((Memref.whole b).access (Rect.unit off size inb)).write (Elt F) f w Finset.univ i = f i := by
  refine View.write_of_not_mem _ _ _ fun hi => ?_
  obtain ⟨j, -, rfl⟩ := Finset.mem_map.mp hi
  have h : ((((View.whole b).slice (Rect.unit off size inb)).emb j a : Fin _) : ℕ) = off a + j a :=
    ValueKit.view_emb_slice_whole_unit_val b off size inb j a
  have hlt : (j a).val < size a := (j a).isLt
  rcases ha with ha | ha
  · exact absurd (h ▸ ha) (by omega)
  · exact absurd (h ▸ ha) (by omega)

/-- A load through a unit-stride window of a whole buffer, at one element. -/
theorem read_hit (b : Ref sig .tc) (off size : Fin b.ty.shape.rank → ℕ) (inb) (f : b.ty.Contents (Elt F))
    (i : b.ty.Idx) (j : (Rect.unit off size inb).shape.Idx) (hj : ∀ a, (i a).val = off a + (j a).val) :
    (Memref.whole b).view.readAt (Elt F) (Rect.unit off size inb).toLoadRect f j = f i := by
  have hi : i = ((View.whole b).slice (Rect.unit off size inb)).emb j :=
    funext fun a => Fin.ext (by rw [ValueKit.view_emb_slice_whole_unit_val]; exact hj a)
  subst hi
  rfl

/-- A load of 256 rows of `x` at row block `b` reads that block. -/
theorem read_xB (off : Fin 2 → ℕ) (inb) (b : Fin 4) (ho : off = ![256 * b.val, 0]) (X : XC F) :
    xM.view.readAt (Elt F) (Rect.unit (s := S1024x256) off S256x256.size inb).toLoadRect X = xB X b := by
  subst ho; funext j
  exact read_hit cc0_stg0_0 _ _ _ X _ j (Fin.forall_fin_two.mpr ⟨rfl, (Nat.zero_add _).symm⟩)

/-- A load of 512 rows of `x` from row block `k` reads the two blocks. -/
theorem read_xB2 (off : Fin 2 → ℕ) (inb) (k : Fin 3) (ho : off = ![256 * k.val, 0]) (X : XC F) :
    xM.view.readAt (Elt F) (Rect.unit (s := S1024x256) off S512x256.size inb).toLoadRect X = xB2 X k := by
  subst ho; funext j
  exact read_hit cc0_stg0_0 _ _ _ X _ j (Fin.forall_fin_two.mpr ⟨rfl, (Nat.zero_add _).symm⟩)

/-- A load of 512 columns of `w` at half `h` reads that half. -/
theorem read_wB (off : Fin 2 → ℕ) (inb) (h : Fin 2) (ho : off = ![0, 512 * h.val]) (W : WC F) :
    wM.view.readAt (Elt F) (Rect.unit (s := S256x1024) off S256x512.size inb).toLoadRect W = wB W h := by
  subst ho; funext j
  exact read_hit cc0_stg1_0 _ _ _ W _ j (Fin.forall_fin_two.mpr ⟨(Nat.zero_add _).symm, rfl⟩)

/-- A load of block `(h, b)` of the accumulator reads that block. -/
theorem read_acc (off : Fin 4 → ℕ) (inb) (h : Fin 2) (b : Fin 4) (ho : off = ![h.val, b.val, 0, 0]) (A : AC F) :
    aM.view.readAt (Elt F) (Rect.unit (s := S2x4x256x512) off S1x1x256x512.size inb).toLoadRect A = accBlk A h b := by
  subst ho; funext j
  have h0 : (j 0).val < 1 := (j 0).isLt
  have h1 : (j 1).val < 1 := (j 1).isLt
  refine read_hit cc0_scratch0 _ _ _ A _ j fun a => ?_
  match a with
  | ⟨0, _⟩ => show h.val = h.val + (j 0).val; omega
  | ⟨1, _⟩ => show b.val = b.val + (j 1).val; omega
  | ⟨2, _⟩ => exact (Nat.zero_add _).symm
  | ⟨3, _⟩ => exact (Nat.zero_add _).symm

/-- A store to block `(h, b)` of the accumulator replaces that block and nothing else. -/
theorem write_acc (off : Fin 4 → ℕ) (inb) (h : Fin 2) (b : Fin 4) (ho : off = ![h.val, b.val, 0, 0]) (A : AC F)
    (v : Vec F S1x1x256x512 .f32) :
    (aM.access (Rect.unit (s := S2x4x256x512) off S1x1x256x512.size inb)).write (Elt F) A v Finset.univ = accSet A h b v := by
  subst ho; funext i
  unfold accSet
  split
  · rename_i hi
    refine write_hit cc0_scratch0 _ _ _ A v i _ fun a => ?_
    match a with
    | ⟨0, _⟩ => exact hi.1
    | ⟨1, _⟩ => exact hi.2
    | ⟨2, _⟩ => exact (Nat.zero_add _).symm
    | ⟨3, _⟩ => exact (Nat.zero_add _).symm
  · rename_i hi
    by_cases h0 : (i 0).val = h.val
    · exact write_miss cc0_scratch0 _ _ _ A v i 1 (by
        have h1 : (i 1).val ≠ b.val := fun h1 => hi ⟨h0, h1⟩
        show (i 1).val < b.val ∨ b.val + 1 ≤ (i 1).val; omega)
    · exact write_miss cc0_scratch0 _ _ _ A v i 0 (by
        show (i 0).val < h.val ∨ h.val + 1 ≤ (i 0).val; omega)

/-- A store to the two blocks from `(h, k)` of the accumulator replaces these and nothing else. -/
theorem write_acc2 (off : Fin 4 → ℕ) (inb) (h : Fin 2) (k : Fin 3) (ho : off = ![h.val, k.val, 0, 0]) (A : AC F)
    (v : Vec F S1x2x256x512 .f32) :
    (aM.access (Rect.unit (s := S2x4x256x512) off S1x2x256x512.size inb)).write (Elt F) A v Finset.univ = accSet2 A h k v := by
  subst ho; funext i
  unfold accSet2
  split
  · rename_i hi
    refine write_hit cc0_scratch0 _ _ _ A v i _ fun a => ?_
    match a with
    | ⟨0, _⟩ => exact hi.1
    | ⟨1, _⟩ => show (i 1).val = k.val + ((i 1).val - k.val); omega
    | ⟨2, _⟩ => exact (Nat.zero_add _).symm
    | ⟨3, _⟩ => exact (Nat.zero_add _).symm
  · rename_i hi
    by_cases h0 : (i 0).val = h.val
    · exact write_miss cc0_scratch0 _ _ _ A v i 1 (by
        show (i 1).val < k.val ∨ k.val + 2 ≤ (i 1).val; omega)
    · exact write_miss cc0_scratch0 _ _ _ A v i 0 (by
        show (i 0).val < h.val ∨ h.val + 1 ≤ (i 0).val; omega)

/-- A store to row block `b` and column half `h` of the result replaces that block and nothing else. -/
theorem write_out (off : Fin 2 → ℕ) (inb) (h : Fin 2) (b : Fin 4) (ho : off = ![256 * b.val, 512 * h.val]) (O : OC F)
    (v : Vec F S256x512 .f32) :
    (oM.access (Rect.unit (s := S1024x1024) off S256x512.size inb)).write (Elt F) O v Finset.univ = outSet O h b v := by
  subst ho; funext i
  unfold outSet
  split
  · rename_i hi
    refine write_hit cc0_stg2_0 _ _ _ O v i _ fun a => ?_
    match a with
    | ⟨0, _⟩ => show (i 0).val = 256 * b.val + (i 0).val % 256; omega
    | ⟨1, _⟩ => show (i 1).val = 512 * h.val + (i 1).val % 512; omega
  · rename_i hi
    by_cases h0 : (i 0).val / 256 = b.val
    · exact write_miss cc0_stg2_0 _ _ _ O v i 1 (by
        show (i 1).val < 512 * h.val ∨ 512 * h.val + 512 ≤ (i 1).val; omega)
    · exact write_miss cc0_stg2_0 _ _ _ O v i 0 (by
        show (i 0).val < 256 * b.val ∨ 256 * b.val + 256 ≤ (i 0).val; omega)

/-! ## The accumulator's blocks after its stores -/

/-- A block just stored is what was stored. -/
theorem accBlk_set (A : AC F) (h : Fin 2) (b : Fin 4) (v : Vec F S1x1x256x512 .f32) : accBlk (accSet A h b v) h b = v := by
  funext j
  have h0 : (j 0).val < 1 := (j 0).isLt
  have h1 : (j 1).val < 1 := (j 1).isLt
  unfold accBlk accSet
  rw [if_pos ⟨rfl, rfl⟩]
  refine congrArg v ((eq_ix4 (n0 := 1) (n1 := 1) (n2 := 256) (n3 := 512) j).trans ?_).symm
  have e0 : j 0 = (0 : Fin 1) := Fin.ext (by show (j 0).val = 0; omega)
  have e1 : j 1 = (0 : Fin 1) := Fin.ext (by show (j 1).val = 0; omega)
  rw [e0, e1]; rfl

/-- A store to one block leaves another as it was. -/
theorem accBlk_set_ne (A : AC F) (h h' : Fin 2) (b b' : Fin 4) (v : Vec F S1x1x256x512 .f32) (hne : ¬(h'.val = h.val ∧ b'.val = b.val)) :
    accBlk (accSet A h b v) h' b' = accBlk A h' b' := by
  funext j; exact if_neg hne

/-- Of two blocks just stored, each is its part of what was stored. -/
theorem accBlk_set2 (A : AC F) (h : Fin 2) (k : Fin 3) (b : Fin 4) (i : Fin 2) (hb : b.val = k.val + i.val) (v : Vec F S1x2x256x512 .f32) :
    accBlk (accSet2 A h k v) h b = fun j => v (ix4 0 i (j 2) (j 3)) := by
  funext j
  have hi := i.isLt
  unfold accBlk accSet2
  rw [dif_pos ⟨rfl, by show k.val ≤ b.val; omega, by show b.val < k.val + 2; omega⟩]
  congr 2
  exact Fin.ext (by show b.val - k.val = i.val; omega)

/-- A store to two blocks of one half leaves the other half as it was. -/
theorem accBlk_set2_ne (A : AC F) (h h' : Fin 2) (k : Fin 3) (b : Fin 4) (hne : h'.val ≠ h.val) (v : Vec F S1x2x256x512 .f32) :
    accBlk (accSet2 A h k v) h' b = accBlk A h' b := by
  funext j; exact dif_neg fun hj => hne hj.1

/-! ## Slots without their unit axes -/

/-- A slot covers the same places with and without its unit axes. -/
theorem flat_set (M : Memref sig .tc .vmem S1x1x256x512 .bf16) : (flat M).view.set = M.view.set := View.set_reshape ..

/-- A copy from one slot to another leaves the target reading what the source read. -/
theorem flat_landing (Md Ms : Memref sig .tc .vmem S1x1x256x512 .bf16) (fd : Md.view.ty.Contents (Elt F)) (fs : Ms.view.ty.Contents (Elt F)) :
    Md.view.read (Elt F) ((flat Md).view.write (Elt F) fd ((flat Ms).view.read (Elt F) fs) Finset.univ) = Ms.view.read (Elt F) fs := by
  funext j
  have h : (flat Md).view.read (Elt F) ((flat Md).view.write (Elt F) fd ((flat Ms).view.read (Elt F) fs) Finset.univ) = (flat Ms).view.read (Elt F) fs :=
    View.read_write_univ ..
  have hj := congrFun h ((Shape.reshapeEquiv squeezes_S1x1x256x512_S256x512.numel_eq).symm j)
  have e : Shape.reshapeEquiv squeezes_S1x1x256x512_S256x512.numel_eq ((Shape.reshapeEquiv squeezes_S1x1x256x512_S256x512.numel_eq).symm j) = j :=
    Equiv.apply_symm_apply _ _
  exact (congrArg (Md.view.read (Elt F) _) e).symm.trans (hj.trans (congrArg (Ms.view.read (Elt F) fs) e))

/-- The two halves' payload texts are the same functions. -/
theorem pay3_pay2 (x : Vec F S256x256 .f32) (w : Vec F S256x512 .f32) : k0_pay3 (k0_pay2 x) w = k0_pay1 x w := rfl
theorem pay4_eq (x : Vec F S256x256 .f32) (w : Vec F S256x512 .f32) : k0_pay4 x w = k0_pay1 x w := rfl
theorem pay5_eq (x : Vec F S256x256 .f32) (w : Vec F S256x512 .f32) : k0_pay5 x w = k0_pay1 x w := rfl
theorem pay7_pay6 (x : Vec F S512x256 .f32) (w : Vec F S256x512 .f32) : k0_pay7 (k0_pay6 x w) = k0_pay8 x w := rfl
theorem pay10_pay9 (a : Vec F S1x1x256x512 .f32) (v : Vec F S1x1x256x512 .bf16) : k0_pay10 (k0_pay9 a) v = k0_pay11 a v := rfl
theorem pay13_eq (a : Vec F S1x1x256x512 .f32) (v : Vec F S1x1x256x512 .bf16) : k0_pay13 a v = k0_pay12 a v := rfl
theorem pay14_eq (a : Vec F S1x1x256x512 .f32) (v : Vec F S1x1x256x512 .bf16) : k0_pay14 a v = k0_pay16 a v := rfl
theorem pay15_pay16 (a : Vec F S1x1x256x512 .f32) (v : Vec F S1x1x256x512 .bf16) : k0_pay15 (k0_pay16 a v) = k0_pay17 a v := rfl
theorem pay19_eq (v : Vec F S1x1x256x512 .bf16) : k0_pay19 v = k0_pay18 v := rfl
theorem pay20_eq (v : Vec F S1x1x256x512 .bf16) : k0_pay20 v = k0_pay18 v := rfl
theorem pay21_eq (v : Vec F S1x1x256x512 .bf16) : k0_pay21 v = k0_pay18 v := rfl
theorem pay22_eq (v : Vec F S1x1x256x512 .bf16) : k0_pay22 v = k0_pay18 v := rfl
theorem pay23_eq (v : Vec F S1x1x256x512 .bf16) : k0_pay23 v = k0_pay18 v := rfl

end Cert.KernelIdeal.Ring
-- ==== Proof.Schedule.lean ====
/-
# The protocol of the four devices

The schedule of `Proof.Plan` in the rounds library: one round on each semaphore. A barrier has two duties of one unit,
`d` paid by the neighbour `nb d`, and each of its units hands over the landing slots its payer lends; a send or receive
semaphore has one duty, a message's credit. Then what each device owes at launch, and the levels by which every wait is
below whatever its device still owes.
-/
module

public import proofs.«01_k».proof.Proof.Reads

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the devices' own -/

/-- The devices' own algebra: for each semaphore, rounds with at most two duties. -/
abbrev UB : Type := URounds (GSem nD τ sig) Bool
/-- It beside the one that the launch of a region uses. -/
abbrev UU : Type := UR sig nD τ × UB

local notation "𝕄" => MT nD τ sig Unit (Elt F) ℕ UU ℕ

/-- Where the launch's part sits in the whole. -/
abbrev EP : Emb (UR sig nD τ) (MT nD τ sig Unit (Elt F) ℕ UU ℕ) := embL
/-- Where the devices' own part sits in the whole. -/
abbrev ER : Emb UB (MT nD τ sig Unit (Elt F) ℕ UU ℕ) := embR

variable (X : Dev nD → XC F) (W : Dev nD → WC F)

/-! ## What is handed over -/

/-- A slot `M` of device `c` at share `q`, holding `v`. -/
def has (c : Dev nD) (M : Memref sig .tc .vmem S1x1x256x512 .bf16) (q : PosShare TreeShare) (v : Slot F) : sProp 𝕄 :=
  owns (c : Thread nD τ) M q v
/-- A slot `M` of device `c`, holding anything. -/
def free (c : Dev nD) (M : Memref sig .tc .vmem S1x1x256x512 .bf16) : sProp 𝕄 := iprop(∃ v, has (F := F) c M fullShare v)

/-- A slot with known contents may be kept in a semaphore's invariant. -/
instance has_storable (c : Dev nD) (M) (q) (v : Slot F) : BI.Storable (upEmb : UEmb _ 𝕄) (has c M q v) := by unfold has; infer_instance
/-- So may a slot with unknown contents, -/
instance free_storable (c : Dev nD) (M) : BI.Storable (upEmb : UEmb _ 𝕄) (free (F := F) c M) := by unfold free; infer_instance

/-- Over the landing slots that the neighbour `d` sends into (and lends, being on the other side of the same pair). -/
def six (d : Bool) (Φ : Fin 2 → Fin 6 → sProp 𝕄) : sProp 𝕄 :=
  match d with
  | false => iprop(Φ 0 0 ∗ Φ 0 1 ∗ Φ 1 2 ∗ Φ 1 3 ∗ Φ 0 4 ∗ Φ 0 5)
  | true => iprop(Φ 1 0 ∗ Φ 1 1 ∗ Φ 0 2 ∗ Φ 0 3 ∗ Φ 1 4 ∗ Φ 1 5)

/-- What the neighbour `d` of device `c` hands it with its barrier unit. -/
def barPay (c : Dev nD) (d : Bool) : sProp 𝕄 := six d fun h s => free (F := F) (nb d c) (rSlot h s)

/-- and what a barrier unit hands over, -/
instance barPay_storable (c : Dev nD) (d : Bool) : BI.Storable (upEmb : UEmb _ 𝕄) (barPay (F := F) c d) := by
  cases d <;> unfold barPay six <;> infer_instance

/-- What the cell `i` of device `c` hands over for its duty `d`. -/
def pay (c : Dev nD) (i : CI) (d : Bool) : sProp 𝕄 :=
  match i with
  | none => barPay c d
  | some (false, h, s) => has c (srcSlot h s) (srcShare s) (src X W c h s)
  | some (true, h, s) => has c (rSlot h s) fullShare (land X W c h s)

/-- and what any unit hands over. -/
instance pay_storable (c : Dev nD) (i : CI) (d : Bool) : BI.Storable (upEmb : UEmb _ 𝕄) (pay X W c i d) := by
  unfold pay
  split <;> infer_instance

/-! ## The schedule -/

/-- The semaphores that the protocol is about: those of a device's core that have one of the 25 names. -/
abbrev IsCell (g : GSem nD τ sig) : Prop := g.1.2 = .tc ∧ csem (cix g.2) = g.2

/-- The schedule: one round for each semaphore; two duties of one unit on a barrier, one duty of a message's size
    elsewhere. -/
def rd : Rounds.Schedule (GSem nD τ sig) Bool 𝕄 where
  duties g r := if r = 0 ∧ IsCell g then (if cix g.2 = none then Finset.univ else {false}) else ∅
  unitless _ := False
  amount g _ _ := if cix g.2 = none then 1 else N
  payload g _ d := pay X W g.1.1 (cix g.2) d
  amount_pos g _ _ _ := by
    by_cases h : cix g.2 = none
    · rw [if_pos h]; exact Nat.one_pos
    · rw [if_neg h]; exact N_pos

/-- What the schedule hands over may be kept in an invariant. -/
instance rd_payload_storable (g : GSem nD τ sig) (r : ℕ) (d : Bool) : BI.Storable (upEmb : UEmb _ 𝕄) ((rd X W).payload g r d) := by
  show BI.Storable upEmb (pay X W g.1.1 (cix g.2) d); infer_instance

section Tables
variable (c : Dev nD) (h : Fin 2) (s : Fin 6)

/-- Each of the 25 semaphores of a device is one of the protocol's. -/
theorem isCell (i : CI) : IsCell (kcell (c, i)) := ⟨rfl, congrArg csem (cix_csem i)⟩

/-- A barrier has both duties; -/
theorem duties_bar : (rd X W).duties (barCell c) 0 = Finset.univ := by
  dsimp only [rd]; rw [if_pos ⟨rfl, isCell c none⟩]; rfl
/-- any other semaphore has one; -/
theorem duties_some (x : Bool × Fin 2 × Fin 6) : (rd X W).duties (kcell (c, some x)) 0 = {false} := by
  dsimp only [rd]; rw [if_pos ⟨rfl, isCell c (some x)⟩, cix_csem]; rfl
/-- and none has any after its one round. -/
theorem duties_later (g : GSem nD τ sig) : ∀ r, 1 ≤ r → (rd X W).duties g r = ∅ :=
  fun r hr => by dsimp only [rd]; exact if_neg fun h => by omega
/-- A barrier duty pays one unit; -/
theorem amount_bar (d : Bool) : (rd X W).amount (barCell c) 0 d = 1 := rfl
/-- any other pays a message's size. -/
theorem amount_some (x : Bool × Fin 2 × Fin 6) (d : Bool) : (rd X W).amount (kcell (c, some x)) 0 d = N := by
  dsimp only [rd]; rw [cix_csem]; rfl
/-- A barrier expects two units in all; -/
theorem expect_bar : (rd X W).expect (barCell c) 0 = 2 := by
  unfold Schedule.expect Schedule.amountOf
  rw [duties_bar, Finset.sum_congr rfl fun d _ => amount_bar X W c d, Finset.sum_const, Finset.card_univ, Fintype.card_bool, smul_eq_mul]
/-- any other semaphore expects a message's size. -/
theorem expect_some (x : Bool × Fin 2 × Fin 6) : (rd X W).expect (kcell (c, some x)) 0 = N := by
  unfold Schedule.expect Schedule.amountOf; rw [duties_some, Finset.sum_singleton, amount_some]
/-- What a duty of a device's semaphore hands over. -/
theorem payload_eq (i : CI) (d : Bool) : (rd X W).payload (kcell (c, i)) 0 d = pay X W c i d := by
  dsimp only [rd]; rw [cix_csem]

/-- Waiting for all of a barrier hands over what both neighbours lend. -/
theorem rest_bar : bigSep ((rd X W).duties (barCell c) 0 \ ∅) (fun d => (rd X W).payload (barCell c) 0 d)
    = iprop(barPay (F := F) c false ∗ barPay (F := F) c true) := by
  rw [Finset.sdiff_empty, duties_bar, bigSep_univ_eq_bigSepL [false, true] (by decide) (by decide), bigSepL_cons_cons, bigSepL_singleton,
    payload_eq, payload_eq]
  rfl
/-- Waiting for all of another semaphore hands over its one message's slot. -/
theorem rest_some (x : Bool × Fin 2 × Fin 6) :
    bigSep ((rd X W).duties (kcell (c, some x)) 0 \ ∅) (fun d => (rd X W).payload (kcell (c, some x)) 0 d) = pay X W c (some x) false := by
  rw [Finset.sdiff_empty, duties_some, bigSep_singleton, payload_eq]

end Tables

/-! ## What each device owes, and the levels -/

/-- The receive credits a device owes for the messages in a list, the first of which it sends first. -/
def tal (c : Dev nD) : List (Fin 2 × Fin 6) → CellTallies nD τ sig Unit
  | [] => 0
  | p :: l => tal c l + tallyAt (recvCell (peer c p.1 p.2) p.1 p.2) () N

/-- The messages in the order they are sent. -/
abbrev order : List (Fin 2 × Fin 6) :=
  [(0, 0), (1, 0), (0, 1), (1, 1), (0, 2), (1, 2), (0, 3), (0, 4), (1, 3), (1, 4), (0, 5), (1, 5)]

/-- After the first barrier signal: every message's receive credit, and one unit of the opposite neighbour's barrier. -/
def O₁ (c : Dev nD) : CellTallies nD τ sig Unit := tal c order + tallyAt (barCell (nb true c)) () 1
/-- At launch: every message's receive credit, and both neighbours' barriers one unit. -/
def O₀ (c : Dev nD) : CellTallies nD τ sig Unit := O₁ c + tallyAt (barCell (nb false c)) () 1

/-- The waits are ranked on every semaphore of a core. -/
def L (g : GSem nD τ sig) : Finset Unit := if g.1.2 = .tc then {()} else ∅
/-- The stage of a slot. -/
def stage (s : Fin 6) : ℕ := (![2, 2, 3, 4, 4, 5] : Fin 6 → ℕ) s
/-- Barriers at 1, a receive at its slot's stage, everything else at 0. -/
def lv (g : GSem nD τ sig) (_ : Unit) : ℕ := match cix g.2 with
  | none => 1
  | some (false, _, _) => 0
  | some (true, _, s) => stage s

/-- Elsewhere there is nothing to rank. -/
theorem L_of_ne (g : GSem nD τ sig) (h : g.1.2 ≠ .tc) : L g = ∅ := if_neg h
/-- A core's semaphore is ranked. -/
theorem L_tc (c : Dev nD) (sm : SemLoc sig) : L ((c : Thread nD τ), sm) = {()} := if_pos rfl
/-- The rank of each of the 25 semaphores. -/
theorem lv_cell (c : Dev nD) (i : CI) : lv (kcell (c, i)) () = match i with
    | none => 1 | some (false, _, _) => 0 | some (true, _, s) => stage s := by
  unfold lv; rw [cix_csem]

/-- Whatever is owed for messages is owed to the receive semaphore of one of them. -/
theorem tal_pos {c : Dev nD} {g : GSem nD τ sig} {u : Unit} {l : List (Fin 2 × Fin 6)} (h : 0 < tal c l g u) :
    ∃ p ∈ l, g = recvCell (peer c p.1 p.2) p.1 p.2 := by
  induction l with
  | nil => exact absurd h (Nat.lt_irrefl 0)
  | cons p l ih =>
    unfold tal at h
    rw [Pi.add_apply, Finsupp.add_apply, tallyAt_apply] at h
    by_cases hg : g = recvCell (peer c p.1 p.2) p.1 p.2
    · exact ⟨p, List.mem_cons_self, hg⟩
    · rw [if_neg fun h' => hg h'.1, Nat.add_zero] at h
      obtain ⟨q, hq, e⟩ := ih h
      exact ⟨q, List.mem_cons_of_mem _ hq, e⟩

/-- Whatever is owed for messages and barriers is owed to a message's receive semaphore or to a neighbour's barrier. -/
theorem tal_bar_pos {c : Dev nD} {g : GSem nD τ sig} {u : Unit} (l : List (Fin 2 × Fin 6))
    (h : 0 < (tal c l + tallyAt (barCell (nb true c)) () 1 + tallyAt (barCell (nb false c)) () 1) g u) :
    (∃ p ∈ l, g = recvCell (peer c p.1 p.2) p.1 p.2) ∨ ∃ d, g = barCell (nb d c) := by
  by_contra hn
  rw [not_or] at hn
  refine hn.1 (tal_pos (u := u) ?_)
  simp only [Pi.add_apply, Finsupp.add_apply, tallyAt_apply] at h
  rw [if_neg (fun h' => hn.2 ⟨true, h'.1⟩), if_neg (fun h' => hn.2 ⟨false, h'.1⟩)] at h
  exact h

/-- So it is at launch. -/
theorem O₀_pos {c : Dev nD} {g : GSem nD τ sig} {u : Unit} (h : 0 < O₀ c g u) :
    (∃ p ∈ order, g = recvCell (peer c p.1 p.2) p.1 p.2) ∨ ∃ d, g = barCell (nb d c) := tal_bar_pos order h

/-- A wait whose level is below the stages of every message its device still owes may be made. -/
theorem mayWait_tal (c : Dev nD) (sm : SemLoc sig) (n : ℕ) (l : List (Fin 2 × Fin 6)) (hn : lv ((c : Thread nD τ), sm) () ≤ n)
    (hl : ∀ p ∈ l, n < stage p.2) : (levAts L lv : sProp 𝕄) ⊢ MayWait (c : Thread nD τ) sm () (tal c l) :=
  MayOwe.of_cut (L := L) (lev := lv) n (fun p hp => by rw [Finset.mem_singleton.mp hp, L_tc]; exact Finset.mem_singleton_self _)
    (fun g u hg => by obtain ⟨p, hp, rfl⟩ := tal_pos hg; rw [L_tc]; exact Finset.mem_singleton_self _)
    (fun p hp => by rw [Finset.mem_singleton.mp hp]; exact hn)
    (fun g u hg => by obtain ⟨p, hp, rfl⟩ := tal_pos hg; rw [lv_cell]; exact hl p hp)

/-- The waits of the staging copies, at level 0, are below everything a device owes at launch. -/
theorem mayWait_stage (c : Dev nD) (sm : SemLoc sig) (hsm : lv ((c : Thread nD τ), sm) () = 0) (O : CellTallies nD τ sig Unit) (hO : O = O₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨p, -, rfl⟩ | ⟨d, rfl⟩ <;> exact Finset.mem_singleton_self _)
      (fun p hp => by rw [Finset.mem_singleton.mp hp, hsm])
      (fun g u hg => by
        rcases O₀_pos hg with ⟨p, -, rfl⟩ | ⟨d, rfl⟩
        · rw [lv_cell]; exact (show ∀ s, 0 < stage s by decide) p.2
        · rw [lv_cell]; exact Nat.one_pos)
  · rw [MayWait_zero]; iintro -; iempintro

/-! ## What a device's body works with -/

/-- The persistent records: every semaphore's invariant, and that each is at its one round. -/
def records (K : Dev nD × CI → ℕ) : sProp 𝕄 :=
  iprop((bigSep Finset.univ fun ci : Dev nD × CI => cellInv ER (rd X W) (K ci) (kcell ci))
    ∗ bigSep Finset.univ fun ci : Dev nD × CI => reached ER (kcell ci) 0)

/-- The records may be used again and again. -/
instance records_persistent (K : Dev nD × CI → ℕ) : BI.Persistent (records X W K) := by unfold records; infer_instance

/-- The records hold each semaphore's invariant, -/
theorem inv_at (K : Dev nD × CI → ℕ) (ci : Dev nD × CI) : records X W K ⊢ cellInv ER (rd X W) (K ci) (kcell ci) := by
  have h : (bigSep Finset.univ fun ci : Dev nD × CI => (cellInv ER (rd X W) (K ci) (kcell ci) : sProp 𝕄)) ⊢ cellInv ER (rd X W) (K ci) (kcell ci) :=
    bigSep_elim (Finset.mem_univ ci)
  unfold records; iintro ⟨H, -⟩; iapply h; iexact H
/-- and that it has come to its round. -/
theorem reached_at (K : Dev nD × CI → ℕ) (ci : Dev nD × CI) : records X W K ⊢ reached ER (kcell ci) 0 := by
  have h : (bigSep Finset.univ fun ci : Dev nD × CI => (reached ER (kcell ci) 0 : sProp 𝕄)) ⊢ reached ER (kcell ci) 0 :=
    bigSep_elim (Finset.mem_univ ci)
  unfold records; iintro ⟨-, H⟩; iapply h; iexact H

/-- Before message `(h, s)` is sent: the right to pay its two semaphores and the place at the send semaphore. -/
def toSend (c : Dev nD) (h : Fin 2) (s : Fin 6) : sProp 𝕄 :=
  iprop(dutyTok ER (sendCell c h s) 0 false ∗ dutyTok ER (recvCell (peer c h s) h s) 0 false ∗ atPos ER (sendCell c h s) 0 ∅ 0)
/-- Once it is sent: the place at the send semaphore and its credit. -/
def sent (c : Dev nD) (h : Fin 2) (s : Fin 6) : sProp 𝕄 :=
  iprop(atPos ER (sendCell c h s) 0 ∅ 0 ∗ cred (tallyAt (sendCell c h s) () N))
/-- Before message `(h, s)` is received: the place at the receive semaphore and its credit. -/
def toRecv (c : Dev nD) (h : Fin 2) (s : Fin 6) : sProp 𝕄 :=
  iprop(atPos ER (recvCell c h s) 0 ∅ 0 ∗ cred (tallyAt (recvCell c h s) () N))
/-- What is still owed, whatever has been waited for. -/
def owing (c : Dev nD) (O : CellTallies nD τ sig Unit) : sProp 𝕄 := iprop(∃ Wt, owes (c : Thread nD τ) O Wt)

/-- What a device's body starts from beside its buffers. -/
def start (c : Dev nD) : sProp 𝕄 :=
  iprop((∃ K, records X W K) ∗ levAts L lv
    ∗ (atPos ER (barCell c) 0 ∅ 0 ∗ cred (tallyAt (barCell c) () 2))
    ∗ (dutyTok ER (barCell (nb false c)) 0 false ∗ dutyTok ER (barCell (nb true c)) 0 true)
    ∗ bigSep Finset.univ fun p : Fin 2 × Fin 6 => iprop(toSend (F := F) c p.1 p.2 ∗ toRecv (F := F) c p.1 p.2))

/-- Every semaphore of device `c` back at zero. -/
def zeros (c : Dev nD) : sProp 𝕄 :=
  iprop(semVal (barCell c) 0 ∗ bigSep Finset.univ fun p : Fin 2 × Fin 6 => iprop(semVal (sendCell c p.1 p.2) 0 ∗ semVal (recvCell c p.1 p.2) 0))

end Cert.KernelIdeal.Ring
-- ==== Proof.Steps.lean ====
/-
# One lemma per kind of effect

Each effect of a device's body, at the devices' protocol: the barrier's signals and wait, sending a message, waiting for
one to arrive or to have left, and the loads and stores at the named blocks.
-/
module

public import proofs.«01_k».proof.Proof.Schedule
public import Idealize.ShloMosaic.Lib.StableHlo.CollectiveRules

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → XC F) (W : Dev nD → WC F) (K : Dev nD × CI → ℕ)

/-- The program has no loops that need a measure. -/
abbrev 𝒱₀ : Variants := Variants.none

/-- Weakest precondition of a program on device `c`. -/
abbrev wpc (c : Dev nD) {α : Type} (e : Prog (TpuEff nD τ sig (Elt F) Λ₀ .tc) α) (Q : α → sProp 𝕄) : sProp 𝕄 :=
  wp frame (wpE (defs₀ (F := F)) 𝒱₀ (c : Thread nD τ) none) Set.univ e Q

/-! ## Slots, with and without their unit axes -/

/-- A slot held is its places held, read without the unit axes. -/
theorem has_flat (c : Dev nD) (M : Memref sig .tc .vmem S1x1x256x512 .bf16) (q : PosShare TreeShare) (v : Slot F) :
    has c M q v ⊢ (iprop(∃ f, ⌜M.view.read (Elt F) f = v⌝ ∗ ((flat M).view.loc (c : Thread nD τ) ↦[(flat M).view.set]{q} f)) : sProp 𝕄) := by
  unfold has owns; rw [flat_set]

/-- And back: its places held, with contents that read as `v`, are the slot holding `v`. -/
theorem flat_has (c : Dev nD) (M : Memref sig .tc .vmem S1x1x256x512 .bf16) (q : PosShare TreeShare) (v : Slot F)
    (f : M.view.ty.Contents (Elt F)) (hf : M.view.read (Elt F) f = v) :
    ((flat M).view.loc (c : Thread nD τ) ↦[(flat M).view.set]{q} f) ⊢ (has c M q v : sProp 𝕄) := by
  unfold has owns; rw [flat_set]; iintro H; iexists f; isplitr
  · ipureintro; exact hf
  · iexact H

/-- A slot's two half shares are the slot. -/
theorem has_halves (c : Dev nD) (M : Memref sig .tc .vmem S1x1x256x512 .bf16) (v : Slot F) :
    has c M fullShare v ⊣⊢ (iprop(has c M fullShare.left v ∗ has c M fullShare.right v) : sProp 𝕄) :=
  owns_share (c : Thread nD τ) M (PosShare.mem_left_op_right fullShare) v

/-! ## The barrier -/

/-- Signalling the neighbour `d`: pays the unit owed, and hands over the landing slots that it will write. -/
theorem wp_bar_signal (c n : Dev nD) (d : Bool) (hn : n = nb d c) (O₁ O : CellTallies nD τ sig Unit)
    (hO : O₁ = O + tallyAt (barCell (nb d c)) () 1) {sem : Sem sig} (hs : sem = barS) {z : ℤ} (hz : z = 1)
    {α : Type} {Q : α → sProp 𝕄} {k : PUnit → Prog (TpuEff nD τ sig (Elt F) Λ₀ .tc) α} :
    records X W K ⊢ iprop(owing (F := F) c O₁ -∗ dutyTok ER (barCell (nb d c)) 0 d -∗ barPay (F := F) (nb d c) d
      -∗ (owing (F := F) c O -∗ wpc c (k ⟨⟩) Q) -∗ wpc c (.op (.semSignal (Dev.tc n : Thread nD τ) sem z) k) Q) := by
  subst hn hs hz
  iintro #HR HO Ht Hp Hk
  unfold owing
  icases HO with ⟨%Wt, HO⟩
  iapply (Rounds.wp_signal 𝒱₀ ER (rd X W) (c : Thread nD τ) none (dst := (nb d c : Thread nD τ)) (κ := K (nb d c, none))
      (d := d) (k' := 1) (by rw [duties_bar]; exact Finset.mem_univ _) (amount_bar X W (nb d c) d) () O hO) $$ [HO Ht Hp]
  · isplitr; · iapply (inv_at X W K (nb d c, none)); iexact HR
    isplitl [HO]; · iexact HO
    isplitl [Ht]; · iexact Ht
    isplitl [Hp]; · iapply (Entails.of_eq (show barPay (F := F) (nb d c) d = (rd X W).payload (barCell (nb d c)) 0 d from (payload_eq X W (nb d c) none d).symm)); iexact Hp
    iapply (reached_at X W K (nb d c, none)); iexact HR
  iintro HO
  iapply Hk; iexists Wt; iexact HO

/-- Waiting for both neighbours at the barrier: hands over the landing slots that both lend. -/
theorem wp_bar_wait (c : Dev nD) {sem : Sem sig} (hs : sem = barS) {z : ℤ} (hz : z = 2)
    {α : Type} {Q : α → sProp 𝕄} {k : PUnit → Prog (TpuEff nD τ sig (Elt F) Λ₀ .tc) α} :
    records X W K ⊢ iprop(levAts L lv -∗ (atPos ER (barCell c) 0 ∅ 0 ∗ cred (tallyAt (barCell c) () 2)) -∗ owing (F := F) c (tal c order)
      -∗ ((semVal (barCell c) 0 ∗ barPay (F := F) c false ∗ barPay (F := F) c true ∗ owing (F := F) c (tal c order)) -∗ wpc c (k ⟨⟩) Q)
      -∗ wpc c (.op (.semWait sem z) k) Q) := by
  subst hs hz
  iintro #HR #Hlev ⟨Hat, Hcr⟩ HO Hk
  unfold owing
  icases HO with ⟨%Wt, HO⟩
  iapply (Rounds.wp_wait_rest_token 𝒱₀ ER (rd X W) (c : Thread nD τ) none (κ := K (c, none)) (sm := .reg barS) (k' := 2)
      (wpE_semWait_eq 𝒱₀ (c : Thread nD τ) none Set.univ) (Set.mem_univ _) () (O := tal c order) (W := Wt) (R := 0) (m := 0) (T := ∅)
      (by rw [expect_bar])) $$ [Hcr HO Hat]
  · isplitr; · iapply (inv_at X W K (c, none)); iexact HR
    isplitl [Hcr]; · iexact Hcr
    isplitl [HO]; · iexact HO
    isplitr; · iapply (mayWait_tal c (.reg barS) 1 order (by rw [lv_cell c none]) (by decide)); iexact Hlev
    iexact Hat
  iintro ⟨HO, Hat, -, Hpay⟩
  ihave Hp := (Entails.of_eq (rest_bar X W c)) $$ Hpay
  icases Hp with ⟨Hp1, Hp2⟩
  imod (Rounds.cell_close ER (rd X W) (Set.mem_univ (K (c, none))) (fun h => h) (R := 0 + 1) (duties_later X W (barCell c))) $$ [Hat] with Hz
  · isplitr; · iapply (inv_at X W K (c, none)); iexact HR
    iexact Hat
  iapply Hk
  isplitl [Hz]; · iexact Hz
  isplitl [Hp1]; · iexact Hp1
  isplitl [Hp2]; · iexact Hp2
  iexists _; iexact HO

/-! ## Messages -/

/-- A message's landing pays its size. -/
theorem amount_flat (h : Fin 2) (s : Fin 6) (x : DmaSem sig) : (flat (rSlot h s)).view.amount (.dma x) = N := rfl

/-- What `c` sends in a slot is what lands on the peer. -/
theorem land_peer (c : Dev nD) (h : Fin 2) (s : Fin 6) : land X W (peer c h s) h s = src X W c h s := by
  unfold land peer; rw [nb_nb]

/-- Sending message `(h, s)`, the next one owed. -/
theorem wp_msg (c n : Dev nD) (h : Fin 2) (s : Fin 6) (hn : n = peer c h s) (l : List (Fin 2 × Fin 6)) (q : PosShare TreeShare) (hq : q = srcShare s)
    {srcM : Memref sig .tc .vmem S256x512 .bf16} (hs : srcM = flat (srcSlot h s))
    {dstM : Memref sig .tc .vmem S256x512 .bf16} (hd : dstM = flat (rSlot h s))
    {sS sR : SemLoc sig} (hsS : sS = .dma (sendS h s)) (hsR : sR = .dma (recvS h s))
    {hsc : (dstM : Memref sig (Dev.tc n : Thread nD τ).2.kind .vmem S256x512 .bf16).view.ref.isScScratch = false}
    {hsrc : srcM.view.WordExact} {hdst : dstM.view.WordExact}
    {hsem : DmaTarget.Typed .vmem sR (.remote (Dev.tc n : Thread nD τ) dstM sS hsc)}
    {α : Type} {Q : α → sProp 𝕄} {k : PUnit → Prog (TpuEff nD τ sig (Elt F) Λ₀ .tc) α} :
    records X W K ⊢ iprop(toSend (F := F) c h s -∗ has c (srcSlot h s) q (src X W c h s) -∗ free (F := F) (peer c h s) (rSlot h s)
      -∗ owing (F := F) c (tal c ((h, s) :: l))
      -∗ ((sent (F := F) c h s ∗ owing (F := F) c (tal c l)) -∗ wpc c (k ⟨⟩) Q)
      -∗ wpc c (.op (.enqueueDma srcM (.remote (Dev.tc n : Thread nD τ) dstM sS hsc) sR hsrc hdst hsem) k) Q) := by
  subst hn hs hd hsS hsR hq
  iintro #HR Ht Hsrc Hdst HO Hk
  unfold owing toSend free
  icases HO with ⟨%Wt, HO⟩
  icases Ht with ⟨HtS, HtR, Hat⟩
  icases Hdst with ⟨%v, Hdst⟩
  ihave Hs := (has_flat c (srcSlot h s) (srcShare s) (src X W c h s)) $$ Hsrc
  icases Hs with ⟨%fs, %hfs, Hs⟩
  ihave Hd := (has_flat (peer c h s) (rSlot h s) fullShare v) $$ Hdst
  icases Hd with ⟨%fd, %hfd, Hd⟩
  have h1 : false ∈ (rd X W).duties ((c : Thread nD τ), SemLoc.dma (sendS h s)) 0 := by
    rw [show ((c : Thread nD τ), SemLoc.dma (sendS h s)) = kcell (c, some (false, h, s)) from rfl, duties_some]; exact Finset.mem_singleton_self _
  have h2 : false ∈ (rd X W).duties ((peer c h s : Thread nD τ), SemLoc.dma (recvS h s)) 0 := by
    rw [show ((peer c h s : Thread nD τ), SemLoc.dma (recvS h s)) = kcell (peer c h s, some (true, h, s)) from rfl, duties_some]; exact Finset.mem_singleton_self _
  have h3 : (rd X W).amount ((c : Thread nD τ), SemLoc.dma (sendS h s)) 0 false = N := amount_some X W c (false, h, s) false
  have h4 : (rd X W).amount ((peer c h s : Thread nD τ), SemLoc.dma (recvS h s)) 0 false = N := amount_some X W (peer c h s) (true, h, s) false
  have h5 : (rd X W).payload ((c : Thread nD τ), SemLoc.dma (sendS h s)) 0 false = has c (srcSlot h s) (srcShare s) (src X W c h s) :=
    payload_eq X W c (some (false, h, s)) false
  have h6 : (rd X W).payload ((peer c h s : Thread nD τ), SemLoc.dma (recvS h s)) 0 false
      = has (peer c h s) (rSlot h s) fullShare (land X W (peer c h s) h s) := payload_eq X W (peer c h s) (some (true, h, s)) false
  iapply (Rounds.wp_send_pointsTo 𝒱₀ ER (rd X W) (c : Thread nD τ) none (κ₁ := K (c, some (false, h, s))) (κ₂ := K (peer c h s, some (true, h, s)))
      (c' := (peer c h s : Thread nD τ)) (src := flat (srcSlot h s)) (dst := flat (rSlot h s)) (sS := .dma (sendS h s)) (sem := .dma (recvS h s))
      (hsc := hsc) (hsrc := hsrc) (hdst := hdst) (hsem := hsem) (k := k) (q := srcShare s)
      (r₁ := 0) (r₂ := 0) (d₁ := false) (d₂ := false) (fd := fd) (fs := fs) h1 h2 () () N (amount_flat h s _) h3 h4 (tal c l) rfl (W := Wt)
      (h5 ▸ flat_has c (srcSlot h s) (srcShare s) _ fs hfs)
      (h6 ▸ flat_has (peer c h s) (rSlot h s) fullShare _ _ ((flat_landing _ _ _ _).trans (hfs.trans (land_peer X W c h s).symm))))
    $$ [Hs Hd HO HtS HtR]
  · isplitr; · iapply (inv_at X W K (c, some (false, h, s))); iexact HR
    isplitr; · iapply (inv_at X W K (peer c h s, some (true, h, s))); iexact HR
    isplitl [Hs]; · iexact Hs
    isplitl [Hd]; · iexact Hd
    isplitl [HO]; · iexact HO
    isplitl [HtS]; · iexact HtS
    isplitr; · iapply (reached_at X W K (c, some (false, h, s))); iexact HR
    isplitl [HtR]; · iexact HtR
    iapply (reached_at X W K (peer c h s, some (true, h, s))); iexact HR
  iintro ⟨Hc, HO⟩
  iapply Hk
  unfold sent
  isplitl [Hc Hat]
  · isplitl [Hat]; · iexact Hat
    iexact Hc
  iexists Wt; iexact HO

/-- Waiting on one of a device's message semaphores: its counter back at zero and what the message hands over. -/
theorem wp_wait_cell (c : Dev nD) (x : Bool × Fin 2 × Fin 6) (l : List (Fin 2 × Fin 6)) (hl : ∀ p ∈ l, lv (kcell (c, some x)) () < stage p.2)
    {sem : DmaSem sig} (hsem : csem (some x) = .dma sem) {sp sp' : Space} {s s' : Shape} {e e' : EltTy} {srcM : Memref sig .tc sp' s' e'} {κ' : Kind}
    {dstM : Memref sig κ' sp s e} (hN : dstM.view.dmaCredit = N)
    {hsrc : srcM.view.WordExact} {hdst : dstM.view.WordExact}
    {α : Type} {Q : α → sProp 𝕄} {k : PUnit → Prog (TpuEff nD τ sig (Elt F) Λ₀ .tc) α} :
    records X W K ⊢ iprop(levAts L lv -∗ (atPos ER (kcell (c, some x)) 0 ∅ 0 ∗ cred (tallyAt (kcell (c, some x)) () N)) -∗ owing (F := F) c (tal c l)
      -∗ ((semVal (kcell (c, some x)) 0 ∗ pay X W c (some x) false ∗ owing (F := F) c (tal c l)) -∗ wpc c (k ⟨⟩) Q)
      -∗ wpc c (.op (.waitDma2 sem srcM dstM hsrc hdst) k) Q) := by
  iintro #HR #Hlev ⟨Hat, Hcr⟩ HO Hk
  unfold owing
  icases HO with ⟨%Wt, HO⟩
  have hw : ∀ K' : PUnit → sProp 𝕄, wpE (defs₀ (F := F)) 𝒱₀ (c : Thread nD τ) none Set.univ (.waitDma2 sem srcM dstM hsrc hdst) K'
      = waitSpec (c : Thread nD τ) Set.univ (csem (some x)) N K' := fun K' => by
    rw [wpE_waitDma2_eq, hN, hsem]
  iapply (Rounds.wp_wait_rest_token 𝒱₀ ER (rd X W) (c : Thread nD τ) none (κ := K (c, some x)) (sm := csem (some x)) (k' := N)
      hw (Set.mem_univ _) () (O := tal c l) (W := Wt) (R := 0) (m := 0) (T := ∅)
      (by rw [expect_some, Nat.zero_add])) $$ [Hcr HO Hat]
  · isplitr; · iapply (inv_at X W K (c, some x)); iexact HR
    isplitl [Hcr]; · iexact Hcr
    isplitl [HO]; · iexact HO
    isplitr; · iapply (mayWait_tal c (csem (some x)) _ l le_rfl hl); iexact Hlev
    iexact Hat
  iintro ⟨HO, Hat, -, Hpay⟩
  ihave Hp := (Entails.of_eq (rest_some X W c x)) $$ Hpay
  imod (Rounds.cell_close ER (rd X W) (Set.mem_univ (K (c, some x))) (fun h => h) (R := 0 + 1) (duties_later X W (kcell (c, some x)))) $$ [Hat] with Hz
  · isplitr; · iapply (inv_at X W K (c, some x)); iexact HR
    iexact Hat
  iapply Hk
  isplitl [Hz]; · iexact Hz
  isplitl [Hp]; · iexact Hp
  iexists _; iexact HO

/-- Waiting for message `(h, s)` to arrive. -/
theorem wp_recv (c : Dev nD) (h : Fin 2) (s : Fin 6) (l : List (Fin 2 × Fin 6)) (hl : ∀ p ∈ l, stage s < stage p.2)
    {sem : DmaSem sig} (hsem : sem = recvS h s) {srcM dstM : Memref sig .tc .vmem S256x512 .bf16} (hd : dstM = flat (rSlot h s))
    {hsrc : srcM.view.WordExact} {hdst : dstM.view.WordExact}
    {α : Type} {Q : α → sProp 𝕄} {k : PUnit → Prog (TpuEff nD τ sig (Elt F) Λ₀ .tc) α} :
    records X W K ⊢ iprop(levAts L lv -∗ toRecv (F := F) c h s -∗ owing (F := F) c (tal c l)
      -∗ ((semVal (recvCell c h s) 0 ∗ has c (rSlot h s) fullShare (land X W c h s) ∗ owing (F := F) c (tal c l)) -∗ wpc c (k ⟨⟩) Q)
      -∗ wpc c (.op (.waitDma2 sem srcM dstM hsrc hdst) k) Q) := by
  subst hsem hd
  unfold toRecv
  exact wp_wait_cell X W K c (true, h, s) l (by rw [lv_cell]; exact hl) rfl (srcM := srcM) (dstM := flat (rSlot h s)) (hsrc := hsrc) (hdst := hdst) (amount_flat h s (recvS h s))

/-- A message's leaving pays its size. -/
theorem credit_src (h : Fin 2) (s : Fin 6) : (flat (srcSlot h s)).view.dmaCredit = N := by
  unfold srcSlot; split <;> rfl

/-- Waiting for message `(h, s)` to have left, everything having been sent. -/
theorem wp_left (c : Dev nD) (h : Fin 2) (s : Fin 6)
    {sem : DmaSem sig} (hsem : sem = sendS h s) {srcM dstM : Memref sig .tc .vmem S256x512 .bf16} (hd : dstM = flat (srcSlot h s))
    {hsrc : srcM.view.WordExact} {hdst : dstM.view.WordExact}
    {α : Type} {Q : α → sProp 𝕄} {k : PUnit → Prog (TpuEff nD τ sig (Elt F) Λ₀ .tc) α} :
    records X W K ⊢ iprop(levAts L lv -∗ sent (F := F) c h s -∗ owing (F := F) c (tal c [])
      -∗ ((semVal (sendCell c h s) 0 ∗ has c (srcSlot h s) (srcShare s) (src X W c h s) ∗ owing (F := F) c (tal c [])) -∗ wpc c (k ⟨⟩) Q)
      -∗ wpc c (.op (.waitDma2 sem srcM dstM hsrc hdst) k) Q) := by
  subst hsem hd
  unfold sent
  exact wp_wait_cell X W K c (false, h, s) [] (fun p hp => absurd hp List.not_mem_nil) rfl (credit_src h s)

/-! ## Loads and stores -/

section Mem
variable (c : Dev nD) {α : Type}

/-- Device `c`'s whole buffer `b` at contents `f`. -/
abbrev buf (b : Ref sig .tc) (f : b.ty.Contents (Elt F)) : sProp 𝕄 := (c : Thread nD τ).loc b ↦{fullShare} f

/-- Loading 256 rows of `x`. -/
theorem wp_xB {Q : α → sProp 𝕄} (off : Fin 2 → ℕ) (inb) (b : Fin 4) (ho : off = ![256 * b.val, 0]) (Xc : XC F) {hl}
    {k : (S256x256.Idx → Elt F .f32) → Prog (TpuEff nD τ sig (Elt F) Λ₀ .tc) α} :
    buf (F := F) c cc0_stg0_0 Xc ⊢ iprop((buf (F := F) c cc0_stg0_0 Xc -∗ wpc c (k (xB Xc b)) Q)
      -∗ wpc c (.op (.load xM (Rect.unit (s := S1024x256) off S256x256.size inb).toLoadRect hl) k) Q) := by
  rw [← read_xB off inb b ho Xc]
  exact wp_load 𝒱₀ (c : Thread nD τ) none Set.univ (m := xM) (Finset.subset_univ _)

/-- Loading 512 rows of `x`. -/
theorem wp_xB2 {Q : α → sProp 𝕄} (off : Fin 2 → ℕ) (inb) (b : Fin 3) (ho : off = ![256 * b.val, 0]) (Xc : XC F) {hl}
    {k : (S512x256.Idx → Elt F .f32) → Prog (TpuEff nD τ sig (Elt F) Λ₀ .tc) α} :
    buf (F := F) c cc0_stg0_0 Xc ⊢ iprop((buf (F := F) c cc0_stg0_0 Xc -∗ wpc c (k (xB2 Xc b)) Q)
      -∗ wpc c (.op (.load xM (Rect.unit (s := S1024x256) off S512x256.size inb).toLoadRect hl) k) Q) := by
  rw [← read_xB2 off inb b ho Xc]
  exact wp_load 𝒱₀ (c : Thread nD τ) none Set.univ (m := xM) (Finset.subset_univ _)

/-- Loading a column half of `w`. -/
theorem wp_wB {Q : α → sProp 𝕄} (off : Fin 2 → ℕ) (inb) (h : Fin 2) (ho : off = ![0, 512 * h.val]) (Wc : WC F) {hl}
    {k : (S256x512.Idx → Elt F .f32) → Prog (TpuEff nD τ sig (Elt F) Λ₀ .tc) α} :
    buf (F := F) c cc0_stg1_0 Wc ⊢ iprop((buf (F := F) c cc0_stg1_0 Wc -∗ wpc c (k (wB Wc h)) Q)
      -∗ wpc c (.op (.load wM (Rect.unit (s := S256x1024) off S256x512.size inb).toLoadRect hl) k) Q) := by
  rw [← read_wB off inb h ho Wc]
  exact wp_load 𝒱₀ (c : Thread nD τ) none Set.univ (m := wM) (Finset.subset_univ _)

/-- Loading a block of the accumulator. -/
theorem wp_acc {Q : α → sProp 𝕄} (off : Fin 4 → ℕ) (inb) (h : Fin 2) (b : Fin 4) (ho : off = ![h.val, b.val, 0, 0]) (A : AC F)
    (v : Vec F S1x1x256x512 .f32) (hv : accBlk A h b = v) {hl}
    {k : (S1x1x256x512.Idx → Elt F .f32) → Prog (TpuEff nD τ sig (Elt F) Λ₀ .tc) α} :
    buf (F := F) c cc0_scratch0 A ⊢ iprop((buf (F := F) c cc0_scratch0 A -∗ wpc c (k v) Q)
      -∗ wpc c (.op (.load aM (Rect.unit (s := S2x4x256x512) off S1x1x256x512.size inb).toLoadRect hl) k) Q) := by
  rw [← hv, ← read_acc off inb h b ho A]
  exact wp_load 𝒱₀ (c : Thread nD τ) none Set.univ (m := aM) (Finset.subset_univ _)

/-- A load of any part of a whole buffer, for its value unread. -/
theorem wp_any {Q : α → sProp 𝕄} (b : Ref sig .tc) (f : b.ty.Contents (Elt F)) {cs : CoreSpace} {sh : Shape} {e : EltTy}
    {m : Memref sig .tc cs sh e} {r : LoadRect sh} {hl : m.view.LoadsAt r} (hm : m.view.ref = b)
    {k : (r.shape.Idx → Elt F e) → Prog (TpuEff nD τ sig (Elt F) Λ₀ .tc) α} :
    buf (F := F) c b f ⊢ iprop((buf (F := F) c b f -∗ ∀ v, wpc c (k v) Q) -∗ wpc c (.op (.load m r hl) k) Q) := by
  subst hm
  iintro H Hk
  iapply (wp_load 𝒱₀ (c : Thread nD τ) none Set.univ (m := m) (Finset.subset_univ _)) $$ H
  iintro H
  ihave Hk' := Hk $$ H
  iapply Hk'

/-- Storing a block of the accumulator. -/
theorem wp_acc_put {Q : α → sProp 𝕄} (off : Fin 4 → ℕ) (inb) (h : Fin 2) (b : Fin 4) (ho : off = ![h.val, b.val, 0, 0]) (A : AC F) (v v' : Vec F S1x1x256x512 .f32) (hv : v = v') {hx hm}
    {k : PUnit → Prog (TpuEff nD τ sig (Elt F) Λ₀ .tc) α} :
    buf (F := F) c cc0_scratch0 A ⊢ iprop((buf (F := F) c cc0_scratch0 (accSet A h b v') -∗ wpc c (k ⟨⟩) Q)
      -∗ wpc c (.op (.store aM (Rect.unit (s := S2x4x256x512) off S1x1x256x512.size inb) v Finset.univ hx hm) k) Q) := by
  subst hv; rw [← write_acc off inb h b ho A v]
  exact wp_store 𝒱₀ (c : Thread nD τ) none Set.univ (m := aM) (r := Rect.unit (s := S2x4x256x512) off S1x1x256x512.size inb) (w := v) (Mk := Finset.univ)
    (S := Finset.univ) (f := A) (Finset.subset_univ _)

/-- Storing two blocks of the accumulator. -/
theorem wp_acc_put2 {Q : α → sProp 𝕄} (off : Fin 4 → ℕ) (inb) (h : Fin 2) (b : Fin 3) (ho : off = ![h.val, b.val, 0, 0]) (A : AC F) (v v' : Vec F S1x2x256x512 .f32) (hv : v = v') {hx hm}
    {k : PUnit → Prog (TpuEff nD τ sig (Elt F) Λ₀ .tc) α} :
    buf (F := F) c cc0_scratch0 A ⊢ iprop((buf (F := F) c cc0_scratch0 (accSet2 A h b v') -∗ wpc c (k ⟨⟩) Q)
      -∗ wpc c (.op (.store aM (Rect.unit (s := S2x4x256x512) off S1x2x256x512.size inb) v Finset.univ hx hm) k) Q) := by
  subst hv; rw [← write_acc2 off inb h b ho A v]
  exact wp_store 𝒱₀ (c : Thread nD τ) none Set.univ (m := aM) (r := Rect.unit (s := S2x4x256x512) off S1x2x256x512.size inb) (w := v) (Mk := Finset.univ)
    (S := Finset.univ) (f := A) (Finset.subset_univ _)

/-- Storing a block of the result. -/
theorem wp_out_put {Q : α → sProp 𝕄} (off : Fin 2 → ℕ) (inb) (h : Fin 2) (b : Fin 4) (ho : off = ![256 * b.val, 512 * h.val]) (O : OC F) (v v' : Vec F S256x512 .f32) (hv : v = v') {hx hm}
    {k : PUnit → Prog (TpuEff nD τ sig (Elt F) Λ₀ .tc) α} :
    buf (F := F) c cc0_stg2_0 O ⊢ iprop((buf (F := F) c cc0_stg2_0 (outSet O h b v') -∗ wpc c (k ⟨⟩) Q)
      -∗ wpc c (.op (.store oM (Rect.unit (s := S1024x1024) off S256x512.size inb) v Finset.univ hx hm) k) Q) := by
  subst hv; rw [← write_out off inb h b ho O v]
  exact wp_store 𝒱₀ (c : Thread nD τ) none Set.univ (m := oM) (r := Rect.unit (s := S1024x1024) off S256x512.size inb) (w := v) (Mk := Finset.univ)
    (S := Finset.univ) (f := O) (Finset.subset_univ _)

/-- Loading a landing slot. -/
theorem wp_rload {Q : α → sProp 𝕄} (h : Fin 2) (s : Fin 6) (off : Fin 4 → ℕ) (inb) (ho : off = ![h.val, s.val, 0, 0]) (q : PosShare TreeShare) (v : Slot F) {hl}
    {k : (S1x1x256x512.Idx → Elt F .bf16) → Prog (TpuEff nD τ sig (Elt F) Λ₀ .tc) α} :
    has c (rSlot h s) q v ⊢ iprop((has c (rSlot h s) q v -∗ wpc c (k v) Q)
      -∗ wpc c (.op (.load rM (Rect.unit (s := S2x6x256x512) off S1x1x256x512.size inb).toLoadRect hl) k) Q) := by
  subst ho
  unfold has owns
  iintro ⟨%f, %hf, H⟩ Hk
  iapply (wp_load_rect 𝒱₀ (c : Thread nD τ) none Set.univ (m := rM) (r := rRect h s) (Finset.Subset.refl _)) $$ H
  iintro H
  subst hf
  iapply Hk
  iexists f; isplitr; · ipureintro; rfl
  iexact H

/-- Loading a send slot that holds anything, for its value unread. -/
theorem wp_bany {Q : α → sProp 𝕄} (h : Fin 2) (b : Fin 4) (off : Fin 4 → ℕ) (inb) (ho : off = ![h.val, b.val, 0, 0]) {hl}
    {k : (S1x1x256x512.Idx → Elt F .bf16) → Prog (TpuEff nD τ sig (Elt F) Λ₀ .tc) α} :
    free (F := F) c (bSlot h b) ⊢ iprop((free (F := F) c (bSlot h b) -∗ ∀ v, wpc c (k v) Q)
      -∗ wpc c (.op (.load bM (Rect.unit (s := S2x4x256x512) off S1x1x256x512.size inb).toLoadRect hl) k) Q) := by
  subst ho
  unfold free has owns
  iintro ⟨%v, %f, %hf, H⟩ Hk
  iapply (wp_load_rect 𝒱₀ (c : Thread nD τ) none Set.univ (m := bM) (r := bRect h b) (Finset.Subset.refl _)) $$ H
  iintro H
  ihave Hk' := Hk $$ [H]
  · iexists v; iexists f; isplitr; · ipureintro; exact hf
    iexact H
  iapply Hk'

/-- Storing message `(h, s)` into its send slot. -/
theorem wp_bput {Q : α → sProp 𝕄} (h : Fin 2) (s : Fin 6) (b : Fin 4) (hM : srcSlot h s = bSlot h b) (off : Fin 4 → ℕ) (inb)
    (ho : off = ![h.val, b.val, 0, 0]) (w : Slot F) (hw : w = src X W c h s) {hx hm}
    {k : PUnit → Prog (TpuEff nD τ sig (Elt F) Λ₀ .tc) α} :
    free (F := F) c (bSlot h b) ⊢ iprop((has c (srcSlot h s) fullShare (src X W c h s) -∗ wpc c (k ⟨⟩) Q)
      -∗ wpc c (.op (.store bM (Rect.unit (s := S2x4x256x512) off S1x1x256x512.size inb) w Finset.univ hx hm) k) Q) := by
  subst ho
  rw [hM, ← hw]
  unfold free has owns
  iintro ⟨%v, %f, %hf, H⟩ Hk
  iapply (wp_store 𝒱₀ (c : Thread nD τ) none Set.univ (m := bM) (r := bRect h b) (Mk := Finset.univ) (S := (bSlot h b).view.set) (f := f)
    (by rw [View.setOn_univ])) $$ H
  iintro H
  iapply Hk
  iexists _; isplitr; swap; · iexact H
  ipureintro; exact View.read_write_univ ..

end Mem

end Cert.KernelIdeal.Ring
-- ==== Proof.Body.lean ====
/-
# The body of a device

From its share of the protocol's start, its staged blocks of `x` and `w` and its scratch buffers, the body of device `c` runs to
its end with every semaphore back at zero and its output buffer holding `result`, one rule per effect in program order.
-/
module

public import proofs.«01_k».proof.Proof.Steps

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → XC F) (W : Dev nD → WC F) (K : Dev nD × CI → ℕ)

/-! ## What the loads of the accumulator see -/

section Acc
variable (c : Dev nD) (A : AC F)

/-- The accumulator once the kept partial products are stored. -/
abbrev accK : AC F := accSet2 (accSet2 A 0 (keep 0 c) (kept X W c 0)) 1 (keep 1 c) (kept X W c 1)
/-- The accumulator once the first half's finished block has its first neighbour's part. -/
abbrev accD : AC F := accSet (accK X W c A) 0 (own 0 c) (own1 X W c 0)
/-- The accumulator once the second half's has too. -/
abbrev accE : AC F := accSet (accD X W c A) 1 (own 1 c) (own1 X W c 1)

/-- With the kept products stored, the first half's forwarded block is the kept product there, -/
theorem accK_fwd0 : accBlk (accK X W c A) 0 (fwd 0 c) = keptI X W c 0 (fwdI 0 c) :=
  (accBlk_set2_ne _ _ _ _ _ (by decide) _).trans (accBlk_set2 _ _ _ _ _ (keep_fwd 0 c) _)
/-- and so is the second half's, -/
theorem accK_fwd1 : accBlk (accK X W c A) 1 (fwd 1 c) = keptI X W c 1 (fwdI 1 c) := accBlk_set2 _ _ _ _ _ (keep_fwd 1 c) _
/-- and the first half's finished block. -/
theorem accK_own0 : accBlk (accK X W c A) 0 (own 0 c) = keptI X W c 0 (ownI 0 c) :=
  (accBlk_set2_ne _ _ _ _ _ (by decide) _).trans (accBlk_set2 _ _ _ _ _ (keep_own 0 c) _)
/-- The second half's finished block is still the kept product when it is read. -/
theorem accD_own : accBlk (accD X W c A) 1 (own 1 c) = keptI X W c 1 (ownI 1 c) :=
  (accBlk_set_ne _ _ _ _ _ _ (fun h => absurd h.1 (by decide))).trans (accBlk_set2 _ _ _ _ _ (keep_own 1 c) _)
/-- In the end the finished blocks hold their own part and the first neighbour's: in the first half, -/
theorem accE_own0 : accBlk (accE X W c A) 0 (own 0 c) = own1 X W c 0 :=
  (accBlk_set_ne _ _ _ _ _ _ (fun h => absurd h.1 (by decide))).trans (accBlk_set ..)
/-- and in the second. -/
theorem accE_own1 : accBlk (accE X W c A) 1 (own 1 c) = own1 X W c 1 := accBlk_set ..

end Acc

/-! ## Slots changing hands -/

/-- The slots of the landing buffer, holding anything. -/
def rFree (c : Dev nD) : sProp 𝕄 := bigSep Finset.univ fun p : Fin 2 × Fin 6 => free (F := F) c (rSlot p.1 p.2)
/-- The slots of the send buffer, holding anything. -/
def bFree (c : Dev nD) : sProp 𝕄 := bigSep Finset.univ fun p : Fin 2 × Fin 4 => free (F := F) c (bSlot p.1 p.2)

/-- One resource per message, listed. -/
theorem bigSep_msgs (Φ : Fin 2 × Fin 6 → sProp 𝕄) : bigSep Finset.univ Φ = iprop(Φ (0, 0) ∗ Φ (0, 1) ∗ Φ (0, 2) ∗ Φ (0, 3) ∗ Φ (0, 4) ∗ Φ (0, 5)
    ∗ Φ (1, 0) ∗ Φ (1, 1) ∗ Φ (1, 2) ∗ Φ (1, 3) ∗ Φ (1, 4) ∗ Φ (1, 5)) := by
  rw [bigSep_univ_eq_bigSepL [(0, 0), (0, 1), (0, 2), (0, 3), (0, 4), (0, 5), (1, 0), (1, 1), (1, 2), (1, 3), (1, 4), (1, 5)] (by decide) (by decide)]
  simp only [bigSepL_cons_cons, bigSepL_singleton]
  rfl
/-- One resource per slot of the send buffer, listed. -/
theorem bigSep_bufs (Φ : Fin 2 × Fin 4 → sProp 𝕄) : bigSep Finset.univ Φ = iprop(Φ (0, 0) ∗ Φ (0, 1) ∗ Φ (0, 2) ∗ Φ (0, 3)
    ∗ Φ (1, 0) ∗ Φ (1, 1) ∗ Φ (1, 2) ∗ Φ (1, 3)) := by
  rw [bigSep_univ_eq_bigSepL [(0, 0), (0, 1), (0, 2), (0, 3), (1, 0), (1, 1), (1, 2), (1, 3)] (by decide) (by decide)]
  simp only [bigSepL_cons_cons, bigSepL_singleton]
  rfl

/-- A device lends its landing slots to its two neighbours. -/
theorem lend (c : Dev nD) : rFree (F := F) c ⊢ iprop(barPay (F := F) (nb false c) false ∗ barPay (F := F) (nb true c) true) := by
  unfold rFree barPay six
  rw [bigSep_msgs, nb_nb, nb_nb]
  dsimp only
  iintro ⟨P00, P01, P02, P03, P04, P05, P10, P11, P12, P13, P14, P15⟩
  isplitl [P00 P01 P12 P13 P04 P05] <;> iframe

/-- What its neighbours lend it is the slots its messages land in. -/
theorem lent (c : Dev nD) : iprop(barPay (F := F) c false ∗ barPay (F := F) c true) ⊢
    iprop(free (F := F) (peer c 0 0) (rSlot 0 0) ∗ free (F := F) (peer c 0 1) (rSlot 0 1) ∗ free (F := F) (peer c 0 2) (rSlot 0 2)
      ∗ free (F := F) (peer c 0 3) (rSlot 0 3) ∗ free (F := F) (peer c 0 4) (rSlot 0 4) ∗ free (F := F) (peer c 0 5) (rSlot 0 5)
      ∗ free (F := F) (peer c 1 0) (rSlot 1 0) ∗ free (F := F) (peer c 1 1) (rSlot 1 1) ∗ free (F := F) (peer c 1 2) (rSlot 1 2)
      ∗ free (F := F) (peer c 1 3) (rSlot 1 3) ∗ free (F := F) (peer c 1 4) (rSlot 1 4) ∗ free (F := F) (peer c 1 5) (rSlot 1 5)) := by
  unfold barPay six
  unfold peer
  dsimp only
  rw [show via 0 0 = false from rfl, show via 0 1 = false from rfl, show via 0 2 = true from rfl, show via 0 3 = true from rfl,
    show via 0 4 = false from rfl, show via 0 5 = false from rfl, show via 1 0 = true from rfl, show via 1 1 = true from rfl,
    show via 1 2 = false from rfl, show via 1 3 = false from rfl, show via 1 4 = true from rfl, show via 1 5 = true from rfl]
  iintro ⟨⟨P00, P01, P12, P13, P04, P05⟩, P10, P11, P02, P03, P14, P15⟩
  iframe

/-- A slot with known contents is a slot. -/
theorem has_free (c : Dev nD) (M : Memref sig .tc .vmem S1x1x256x512 .bf16) (v : Slot F) : has c M fullShare v ⊢ free (F := F) c M := by
  unfold free; iintro H; iexists v; iexact H

/-- The finished block, read by two messages at once. -/
theorem halves (c : Dev nD) (h : Fin 2) : has c (srcSlot h 3) fullShare (src X W c h 3)
    ⊢ iprop(has c (srcSlot h 3) fullShare.left (src X W c h 3) ∗ has c (srcSlot h 4) fullShare.right (src X W c h 4)) := (has_halves ..).1
/-- A block received is passed on from where it landed. -/
theorem relay (c : Dev nD) (h : Fin 2) : has c (rSlot h 3) fullShare (land X W c h 3) ⊢ has c (srcSlot h 5) fullShare (src X W c h 5) := BI.Entails.refl _
/-- Once all messages of a half have left, its send slots are free again, and so is the landing slot the last was read from. -/
theorem unborrow (c : Dev nD) (h : Fin 2) : iprop(has c (srcSlot h 0) (srcShare 0) (src X W c h 0) ∗ has c (srcSlot h 1) (srcShare 1) (src X W c h 1)
      ∗ has c (srcSlot h 2) (srcShare 2) (src X W c h 2) ∗ has c (srcSlot h 3) (srcShare 3) (src X W c h 3)
      ∗ has c (srcSlot h 4) (srcShare 4) (src X W c h 4) ∗ has c (srcSlot h 5) (srcShare 5) (src X W c h 5))
    ⊢ iprop((free (F := F) c (bSlot h 0) ∗ free (F := F) c (bSlot h 1) ∗ free (F := F) c (bSlot h 2) ∗ free (F := F) c (bSlot h 3))
      ∗ free (F := F) c (rSlot h 3)) := by
  have h5 : has c (srcSlot h 3) (srcShare 3) (src X W c h 3) ⊢ iprop(has c (srcSlot h 4) (srcShare 4) (src X W c h 4) -∗ free (F := F) c (bSlot h 3)) := by
    show has c (bSlot h 3) fullShare.left (msg3 X W c h) ⊢ iprop(has c (bSlot h 3) fullShare.right (msg3 X W c h) -∗ free (F := F) c (bSlot h 3))
    iintro H1 H2
    iapply (has_free c (bSlot h 3) (msg3 X W c h))
    iapply (has_halves c (bSlot h 3) (msg3 X W c h)).2
    isplitl [H1] <;> iassumption
  show iprop(has c (bSlot h 0) fullShare (src X W c h 0) ∗ has c (bSlot h 1) fullShare (src X W c h 1)
    ∗ has c (bSlot h 2) fullShare (src X W c h 2) ∗ has c (srcSlot h 3) (srcShare 3) (src X W c h 3)
    ∗ has c (srcSlot h 4) (srcShare 4) (src X W c h 4) ∗ has c (rSlot h 3) fullShare (src X W c h 5)) ⊢ _
  iintro ⟨M0, M1, M2, M3, M4, M5⟩
  ihave F0 := (has_free c (bSlot h 0) (src X W c h 0)) $$ M0
  ihave F1 := (has_free c (bSlot h 1) (src X W c h 1)) $$ M1
  ihave F2 := (has_free c (bSlot h 2) (src X W c h 2)) $$ M2
  ihave F3 := h5 $$ M3 M4
  ihave F5 := (has_free c (rSlot h 3) (src X W c h 5)) $$ M5
  iframe

/-! ## The run of the body -/

/-- What the body of device `c` starts from. -/
def bodyPre (c : Dev nD) (A : AC F) (O : OC F) : sProp 𝕄 :=
  iprop(start X W c ∗ owing (F := F) c (O₀ c) ∗ (buf (F := F) c cc0_stg0_0 (X c) ∗ buf (F := F) c cc0_stg1_0 (W c) ∗ buf (F := F) c cc0_stg2_0 O)
    ∗ buf (F := F) c cc0_scratch0 A ∗ rFree (F := F) c ∗ bFree (F := F) c)
/-- What it ends with. -/
def bodyPost (c : Dev nD) (O : OC F) : sProp 𝕄 :=
  iprop(zeros (F := F) c ∗ owing (F := F) c 0 ∗ (buf (F := F) c cc0_stg0_0 (X c) ∗ buf (F := F) c cc0_stg1_0 (W c) ∗ buf (F := F) c cc0_stg2_0 (result X W c O))
    ∗ (∃ A : AC F, buf (F := F) c cc0_scratch0 A) ∗ rFree (F := F) c ∗ bFree (F := F) c)

set_option maxHeartbeats 8000000 in
/-- The body of device `c`, one rule per effect in program order. -/
theorem sound_body (c : Dev nD) (A0 : AC F) (O : OC F) (Kt : PUnit → sProp 𝕄) :
    iprop(bodyPre X W c A0 O ∗ (bodyPost X W c O -∗ Kt ⟨⟩))
      ⊢ wpc c (cc0_body xM (Memref.isWhole_whole _) wM (Memref.isWhole_whole _) oM (Memref.isWhole_whole _) aM (Memref.isWhole_whole _)
          rM (Memref.isWhole_whole _) bM (Memref.isWhole_whole _) cc0_scratch3 cc0_scratch4) Kt := by
  unfold bodyPre start
  iintro ⟨⟨⟨⟨%K, #HR⟩, #Hlev, Hbar, ⟨HtF, HtT⟩, HTR⟩, HO, ⟨Hx, Hw, HOut⟩, HA, HrF, HbF⟩, Hk⟩
  ihave HTR' := (Entails.of_eq (bigSep_msgs _)) $$ HTR
  icases HTR' with ⟨⟨T00, R00⟩, ⟨T01, R01⟩, ⟨T02, R02⟩, ⟨T03, R03⟩, ⟨T04, R04⟩, ⟨T05, R05⟩, ⟨T10, R10⟩, ⟨T11, R11⟩, ⟨T12, R12⟩, ⟨T13, R13⟩, ⟨T14, R14⟩, ⟨T15, R15⟩⟩
  ihave Hlend := (lend c) $$ HrF
  icases Hlend with ⟨HpF, HpT⟩
  unfold bFree
  ihave HbF' := (Entails.of_eq (bigSep_bufs _)) $$ HbF
  icases HbF' with ⟨B00, B01, B02, B03, B10, B11, B12, B13⟩
  simp only [cc0_body_eq_skeleton]; unfold cc0_body_skel
  -- part 1
  simp only [k0_part1_eq_skeleton, k0_part1_skel, semSignalWord, semWaitWord, Prog.lift, Prog.bind_op, Prog.bind_ret, Prog.pure_eq_ret, wp_deviceId]
  iapply (wp_bar_signal X W K c _ false (dev1_eq c) (O₀ c) (O₁ c) rfl rfl rfl) $$ HR HO HtF HpF; iintro HO
  iapply (wp_bar_signal X W K c _ true (dev2_eq c) (O₁ c) (tal c order) rfl rfl rfl) $$ HR HO HtT HpT; iintro HO
  -- part 2
  simp only [k0_part2_eq_skeleton, k0_part2_skel, semSignalWord, semWaitWord, Prog.lift, Prog.bind_op, Prog.bind_ret, Prog.pure_eq_ret, wp_deviceId]
  iapply (wp_xB c _ _ (fst 0 c) (off1_eq c) (X c)) $$ Hx; iintro Hx
  iapply (wp_wB c _ _ 0 rfl (W c)) $$ Hw; iintro Hw
  iapply (wp_bany c 0 0 _ _ rfl) $$ B00; iintro B00 %_
  iapply (wp_bput X W c 0 0 0 rfl _ _ rfl _ rfl) $$ B00; iintro M00
  iapply (wp_xB c _ _ (fst 1 c) (off2_eq c) (X c)) $$ Hx; iintro Hx
  -- part 3
  simp only [k0_part3_eq_skeleton, k0_part3_skel, semSignalWord, semWaitWord, Prog.lift, Prog.bind_op, Prog.bind_ret, Prog.pure_eq_ret, wp_deviceId]
  iapply (wp_wB c _ _ 1 rfl (W c)) $$ Hw; iintro Hw
  iapply (wp_bany c 1 0 _ _ rfl) $$ B10; iintro B10 %_
  iapply (wp_bput X W c 1 0 0 rfl _ _ rfl _ rfl) $$ B10; iintro M10
  iapply (wp_bar_wait X W K c rfl rfl) $$ HR Hlev Hbar HO; iintro ⟨ZB, HpF, HpT, HO⟩
  ihave HP := (lent c) $$ [HpF HpT]; · isplitl [HpF] <;> iassumption
  icases HP with ⟨P00, P01, P02, P03, P04, P05, P10, P11, P12, P13, P14, P15⟩
  iapply (wp_msg X W K c _ 0 0 (dev3_eq c) [(1, 0), (0, 1), (1, 1), (0, 2), (1, 2), (0, 3), (0, 4), (1, 3), (1, 4), (0, 5), (1, 5)] fullShare rfl rfl rfl rfl rfl) $$ HR T00 M00 P00 HO; iintro ⟨S00, HO⟩
  -- part 4
  simp only [k0_part4_eq_skeleton, k0_part4_skel, semSignalWord, semWaitWord, Prog.lift, Prog.bind_op, Prog.bind_ret, Prog.pure_eq_ret, wp_deviceId]
  iapply (wp_msg X W K c _ 1 0 (dev4_eq c) [(0, 1), (1, 1), (0, 2), (1, 2), (0, 3), (0, 4), (1, 3), (1, 4), (0, 5), (1, 5)] fullShare rfl rfl rfl rfl rfl) $$ HR T10 M10 P10 HO; iintro ⟨S10, HO⟩
  iapply (wp_xB c _ _ (snd 0 c) (off3_eq c) (X c)) $$ Hx; iintro Hx
  iapply (wp_wB c _ _ 0 rfl (W c)) $$ Hw; iintro Hw
  iapply (wp_bany c 0 1 _ _ rfl) $$ B01; iintro B01 %_
  iapply (wp_bput X W c 0 1 1 rfl _ _ rfl _ rfl) $$ B01; iintro M01
  iapply (wp_msg X W K c _ 0 1 (dev5_eq c) [(1, 1), (0, 2), (1, 2), (0, 3), (0, 4), (1, 3), (1, 4), (0, 5), (1, 5)] fullShare rfl rfl rfl rfl rfl) $$ HR T01 M01 P01 HO; iintro ⟨S01, HO⟩
  -- part 5
  simp only [k0_part5_eq_skeleton, k0_part5_skel, semSignalWord, semWaitWord, Prog.lift, Prog.bind_op, Prog.bind_ret, Prog.pure_eq_ret, wp_deviceId]
  iapply (wp_xB c _ _ (snd 1 c) (off4_eq c) (X c)) $$ Hx; iintro Hx
  iapply (wp_wB c _ _ 1 rfl (W c)) $$ Hw; iintro Hw
  iapply (wp_bany c 1 1 _ _ rfl) $$ B11; iintro B11 %_
  iapply (wp_bput X W c 1 1 1 rfl _ _ rfl _ rfl) $$ B11; iintro M11
  iapply (wp_msg X W K c _ 1 1 (dev6_eq c) [(0, 2), (1, 2), (0, 3), (0, 4), (1, 3), (1, 4), (0, 5), (1, 5)] fullShare rfl rfl rfl rfl rfl) $$ HR T11 M11 P11 HO; iintro ⟨S11, HO⟩
  iapply (wp_xB2 c _ _ (keep 0 c) (off5_eq c) (X c)) $$ Hx; iintro Hx
  iapply (wp_wB c _ _ 0 rfl (W c)) $$ Hw; iintro Hw
  -- part 6
  simp only [k0_part6_eq_skeleton, k0_part6_skel, semSignalWord, semWaitWord, Prog.lift, Prog.bind_op, Prog.bind_ret, Prog.pure_eq_ret, wp_deviceId]
  iapply (wp_any c cc0_scratch0 _ rfl) $$ HA; iintro HA %_
  iapply (wp_acc_put2 c _ _ 0 (keep 0 c) (off6_eq c) _ _ (kept X W c 0) (pay7_pay6 _ _)) $$ HA; iintro HA
  iapply (wp_xB2 c _ _ (keep 1 c) (off7_eq c) (X c)) $$ Hx; iintro Hx
  iapply (wp_wB c _ _ 1 rfl (W c)) $$ Hw; iintro Hw
  iapply (wp_any c cc0_scratch0 _ rfl) $$ HA; iintro HA %_
  iapply (wp_acc_put2 c _ _ 1 (keep 1 c) (off8_eq c) _ _ (kept X W c 1) rfl) $$ HA; iintro HA
  iapply (wp_recv X W K c 0 0 [(0, 2), (1, 2), (0, 3), (0, 4), (1, 3), (1, 4), (0, 5), (1, 5)] (by decide) rfl rfl) $$ HR Hlev R00 HO; iintro ⟨ZR00, L00, HO⟩
  iapply (wp_acc c _ _ 0 (fwd 0 c) (off9_eq c) _ (keptI X W c 0 (fwdI 0 c)) (accK_fwd0 X W c A0)) $$ HA; iintro HA
  -- part 7
  simp only [k0_part7_eq_skeleton, k0_part7_skel, semSignalWord, semWaitWord, Prog.lift, Prog.bind_op, Prog.bind_ret, Prog.pure_eq_ret, wp_deviceId]
  iapply (wp_rload c 0 0 _ _ rfl fullShare (land X W c 0 0)) $$ L00; iintro L00
  iapply (wp_bany c 0 2 _ _ rfl) $$ B02; iintro B02 %_
  iapply (wp_bput X W c 0 2 2 rfl _ _ rfl _ (pay10_pay9 _ _)) $$ B02; iintro M02
  iapply (wp_msg X W K c _ 0 2 (dev7_eq c) [(1, 2), (0, 3), (0, 4), (1, 3), (1, 4), (0, 5), (1, 5)] fullShare rfl rfl rfl rfl rfl) $$ HR T02 M02 P02 HO; iintro ⟨S02, HO⟩
  -- part 8
  simp only [k0_part8_eq_skeleton, k0_part8_skel, semSignalWord, semWaitWord, Prog.lift, Prog.bind_op, Prog.bind_ret, Prog.pure_eq_ret, wp_deviceId]
  iapply (wp_recv X W K c 1 0 [(1, 2), (0, 3), (0, 4), (1, 3), (1, 4), (0, 5), (1, 5)] (by decide) rfl rfl) $$ HR Hlev R10 HO; iintro ⟨ZR10, L10, HO⟩
  iapply (wp_acc c _ _ 1 (fwd 1 c) (off10_eq c) _ (keptI X W c 1 (fwdI 1 c)) (accK_fwd1 X W c A0)) $$ HA; iintro HA
  iapply (wp_rload c 1 0 _ _ rfl fullShare (land X W c 1 0)) $$ L10; iintro L10
  iapply (wp_bany c 1 2 _ _ rfl) $$ B12; iintro B12 %_
  iapply (wp_bput X W c 1 2 2 rfl _ _ rfl _ rfl) $$ B12; iintro M12
  iapply (wp_msg X W K c _ 1 2 (dev8_eq c) [(0, 3), (0, 4), (1, 3), (1, 4), (0, 5), (1, 5)] fullShare rfl rfl rfl rfl rfl) $$ HR T12 M12 P12 HO; iintro ⟨S12, HO⟩
  -- part 9
  simp only [k0_part9_eq_skeleton, k0_part9_skel, semSignalWord, semWaitWord, Prog.lift, Prog.bind_op, Prog.bind_ret, Prog.pure_eq_ret, wp_deviceId]
  iapply (wp_recv X W K c 0 1 [(0, 3), (0, 4), (1, 3), (1, 4), (0, 5), (1, 5)] (by decide) rfl rfl) $$ HR Hlev R01 HO; iintro ⟨ZR01, L01, HO⟩
  iapply (wp_acc c _ _ 0 (own 0 c) (off11_eq c) _ (keptI X W c 0 (ownI 0 c)) (accK_own0 X W c A0)) $$ HA; iintro HA
  iapply (wp_rload c 0 1 _ _ rfl fullShare (land X W c 0 1)) $$ L01; iintro L01
  iapply (wp_any c cc0_scratch0 _ rfl) $$ HA; iintro HA %_
  iapply (wp_acc_put c _ _ 0 (own 0 c) (off11_eq c) _ _ (own1 X W c 0) rfl) $$ HA; iintro HA
  iapply (wp_recv X W K c 1 1 [(0, 3), (0, 4), (1, 3), (1, 4), (0, 5), (1, 5)] (by decide) rfl rfl) $$ HR Hlev R11 HO; iintro ⟨ZR11, L11, HO⟩
  -- part 10
  simp only [k0_part10_eq_skeleton, k0_part10_skel, semSignalWord, semWaitWord, Prog.lift, Prog.bind_op, Prog.bind_ret, Prog.pure_eq_ret, wp_deviceId]
  iapply (wp_acc c _ _ 1 (own 1 c) (off12_eq c) _ (keptI X W c 1 (ownI 1 c)) (accD_own X W c A0)) $$ HA; iintro HA
  iapply (wp_rload c 1 1 _ _ rfl fullShare (land X W c 1 1)) $$ L11; iintro L11
  iapply (wp_any c cc0_scratch0 _ rfl) $$ HA; iintro HA %_
  iapply (wp_acc_put c _ _ 1 (own 1 c) (off12_eq c) _ _ (own1 X W c 1) rfl) $$ HA; iintro HA
  iapply (wp_recv X W K c 0 2 [(0, 3), (0, 4), (1, 3), (1, 4), (0, 5), (1, 5)] (by decide) rfl rfl) $$ HR Hlev R02 HO; iintro ⟨ZR02, L02, HO⟩
  iapply (wp_acc c _ _ 0 (own 0 c) (off11_eq c) _ (own1 X W c 0) (accE_own0 X W c A0)) $$ HA; iintro HA
  iapply (wp_rload c 0 2 _ _ rfl fullShare (land X W c 0 2)) $$ L02; iintro L02
  -- part 11
  simp only [k0_part11_eq_skeleton, k0_part11_skel, semSignalWord, semWaitWord, Prog.lift, Prog.bind_op, Prog.bind_ret, Prog.pure_eq_ret, wp_deviceId]
  iapply (wp_bany c 0 3 _ _ rfl) $$ B03; iintro B03 %_
  iapply (wp_bput X W c 0 3 3 rfl _ _ rfl _ (pay15_pay16 _ _)) $$ B03; iintro M03
  ihave M := (halves X W c 0) $$ M03; icases M with ⟨M03, M04⟩
  iapply (wp_msg X W K c _ 0 3 (dev9_eq c) [(0, 4), (1, 3), (1, 4), (0, 5), (1, 5)] fullShare.left rfl rfl rfl rfl rfl) $$ HR T03 M03 P03 HO; iintro ⟨S03, HO⟩
  iapply (wp_msg X W K c _ 0 4 (dev10_eq c) [(1, 3), (1, 4), (0, 5), (1, 5)] fullShare.right rfl rfl rfl rfl rfl) $$ HR T04 M04 P04 HO; iintro ⟨S04, HO⟩
  -- part 12
  simp only [k0_part12_eq_skeleton, k0_part12_skel, semSignalWord, semWaitWord, Prog.lift, Prog.bind_op, Prog.bind_ret, Prog.pure_eq_ret, wp_deviceId]
  iapply (wp_any c cc0_stg2_0 _ rfl) $$ HOut; iintro HOut %_
  iapply (wp_out_put c _ _ 0 (own 0 c) (off13_eq c) _ _ (blk X W c 0) rfl) $$ HOut; iintro HOut
  iapply (wp_recv X W K c 1 2 [(1, 3), (1, 4), (0, 5), (1, 5)] (by decide) rfl rfl) $$ HR Hlev R12 HO; iintro ⟨ZR12, L12, HO⟩
  iapply (wp_acc c _ _ 1 (own 1 c) (off12_eq c) _ (own1 X W c 1) (accE_own1 X W c A0)) $$ HA; iintro HA
  iapply (wp_rload c 1 2 _ _ rfl fullShare (land X W c 1 2)) $$ L12; iintro L12
  iapply (wp_bany c 1 3 _ _ rfl) $$ B13; iintro B13 %_
  iapply (wp_bput X W c 1 3 3 rfl _ _ rfl _ rfl) $$ B13; iintro M13
  -- part 13
  simp only [k0_part13_eq_skeleton, k0_part13_skel, semSignalWord, semWaitWord, Prog.lift, Prog.bind_op, Prog.bind_ret, Prog.pure_eq_ret, wp_deviceId]
  ihave M := (halves X W c 1) $$ M13; icases M with ⟨M13, M14⟩
  iapply (wp_msg X W K c _ 1 3 (dev11_eq c) [(1, 4), (0, 5), (1, 5)] fullShare.left rfl rfl rfl rfl rfl) $$ HR T13 M13 P13 HO; iintro ⟨S13, HO⟩
  iapply (wp_msg X W K c _ 1 4 (dev12_eq c) [(0, 5), (1, 5)] fullShare.right rfl rfl rfl rfl rfl) $$ HR T14 M14 P14 HO; iintro ⟨S14, HO⟩
  iapply (wp_any c cc0_stg2_0 _ rfl) $$ HOut; iintro HOut %_
  iapply (wp_out_put c _ _ 1 (own 1 c) (off14_eq c) _ _ (blk X W c 1) rfl) $$ HOut; iintro HOut
  -- part 14
  simp only [k0_part14_eq_skeleton, k0_part14_skel, semSignalWord, semWaitWord, Prog.lift, Prog.bind_op, Prog.bind_ret, Prog.pure_eq_ret, wp_deviceId]
  iapply (wp_recv X W K c 0 3 [(0, 5), (1, 5)] (by decide) rfl rfl) $$ HR Hlev R03 HO; iintro ⟨ZR03, L03, HO⟩
  iapply (wp_rload c 0 3 _ _ rfl fullShare (land X W c 0 3)) $$ L03; iintro L03
  iapply (wp_any c cc0_stg2_0 _ rfl) $$ HOut; iintro HOut %_
  iapply (wp_out_put c _ _ 0 (fwd 0 c) (off15_eq c) _ _ (k0_pay18 (land X W c 0 3)) rfl) $$ HOut; iintro HOut
  ihave M05 := (relay X W c 0) $$ L03
  iapply (wp_msg X W K c _ 0 5 (dev13_eq c) [(1, 5)] fullShare rfl rfl rfl rfl rfl) $$ HR T05 M05 P05 HO; iintro ⟨S05, HO⟩
  -- part 15
  simp only [k0_part15_eq_skeleton, k0_part15_skel, semSignalWord, semWaitWord, Prog.lift, Prog.bind_op, Prog.bind_ret, Prog.pure_eq_ret, wp_deviceId]
  iapply (wp_recv X W K c 1 3 [(1, 5)] (by decide) rfl rfl) $$ HR Hlev R13 HO; iintro ⟨ZR13, L13, HO⟩
  iapply (wp_rload c 1 3 _ _ rfl fullShare (land X W c 1 3)) $$ L13; iintro L13
  iapply (wp_any c cc0_stg2_0 _ rfl) $$ HOut; iintro HOut %_
  iapply (wp_out_put c _ _ 1 (fwd 1 c) (off16_eq c) _ _ (k0_pay18 (land X W c 1 3)) rfl) $$ HOut; iintro HOut
  ihave M15 := (relay X W c 1) $$ L13
  iapply (wp_msg X W K c _ 1 5 (dev14_eq c) [] fullShare rfl rfl rfl rfl rfl) $$ HR T15 M15 P15 HO; iintro ⟨S15, HO⟩
  -- part 16
  simp only [k0_part16_eq_skeleton, k0_part16_skel, semSignalWord, semWaitWord, Prog.lift, Prog.bind_op, Prog.bind_ret, Prog.pure_eq_ret, wp_deviceId]
  iapply (wp_recv X W K c 0 4 [] (by decide) rfl rfl) $$ HR Hlev R04 HO; iintro ⟨ZR04, L04, HO⟩
  iapply (wp_rload c 0 4 _ _ rfl fullShare (land X W c 0 4)) $$ L04; iintro L04
  iapply (wp_any c cc0_stg2_0 _ rfl) $$ HOut; iintro HOut %_
  iapply (wp_out_put c _ _ 0 (snd 0 c) (off17_eq c) _ _ (k0_pay18 (land X W c 0 4)) rfl) $$ HOut; iintro HOut
  iapply (wp_recv X W K c 1 4 [] (by decide) rfl rfl) $$ HR Hlev R14 HO; iintro ⟨ZR14, L14, HO⟩
  iapply (wp_rload c 1 4 _ _ rfl fullShare (land X W c 1 4)) $$ L14; iintro L14
  -- part 17
  simp only [k0_part17_eq_skeleton, k0_part17_skel, semSignalWord, semWaitWord, Prog.lift, Prog.bind_op, Prog.bind_ret, Prog.pure_eq_ret, wp_deviceId]
  iapply (wp_any c cc0_stg2_0 _ rfl) $$ HOut; iintro HOut %_
  iapply (wp_out_put c _ _ 1 (snd 1 c) (off18_eq c) _ _ (k0_pay18 (land X W c 1 4)) rfl) $$ HOut; iintro HOut
  iapply (wp_recv X W K c 0 5 [] (by decide) rfl rfl) $$ HR Hlev R05 HO; iintro ⟨ZR05, L05, HO⟩
  iapply (wp_rload c 0 5 _ _ rfl fullShare (land X W c 0 5)) $$ L05; iintro L05
  iapply (wp_any c cc0_stg2_0 _ rfl) $$ HOut; iintro HOut %_
  iapply (wp_out_put c _ _ 0 (fst 0 c) (off19_eq c) _ _ (k0_pay18 (land X W c 0 5)) rfl) $$ HOut; iintro HOut
  -- part 18
  simp only [k0_part18_eq_skeleton, k0_part18_skel, semSignalWord, semWaitWord, Prog.lift, Prog.bind_op, Prog.bind_ret, Prog.pure_eq_ret, wp_deviceId]
  iapply (wp_recv X W K c 1 5 [] (by decide) rfl rfl) $$ HR Hlev R15 HO; iintro ⟨ZR15, L15, HO⟩
  iapply (wp_rload c 1 5 _ _ rfl fullShare (land X W c 1 5)) $$ L15; iintro L15
  iapply (wp_any c cc0_stg2_0 _ rfl) $$ HOut; iintro HOut %_
  iapply (wp_out_put c _ _ 1 (fst 1 c) (off20_eq c) _ _ (k0_pay18 (land X W c 1 5)) rfl) $$ HOut; iintro HOut
  iapply (wp_left X W K c 0 0 rfl rfl) $$ HR Hlev S00 HO; iintro ⟨ZS00, M00, HO⟩
  iapply (wp_left X W K c 0 1 rfl rfl) $$ HR Hlev S01 HO; iintro ⟨ZS01, M01, HO⟩
  -- part 19
  simp only [k0_part19_eq_skeleton, k0_part19_skel, semSignalWord, semWaitWord, Prog.lift, Prog.bind_op, Prog.bind_ret, Prog.pure_eq_ret, wp_deviceId]
  iapply (wp_left X W K c 0 2 rfl rfl) $$ HR Hlev S02 HO; iintro ⟨ZS02, M02, HO⟩
  iapply (wp_left X W K c 0 3 rfl rfl) $$ HR Hlev S03 HO; iintro ⟨ZS03, M03, HO⟩
  iapply (wp_left X W K c 0 4 rfl rfl) $$ HR Hlev S04 HO; iintro ⟨ZS04, M04, HO⟩
  -- part 20
  simp only [k0_part20_eq_skeleton, k0_part20_skel, semSignalWord, semWaitWord, Prog.lift, Prog.bind_op, Prog.bind_ret, Prog.pure_eq_ret, wp_deviceId]
  iapply (wp_left X W K c 0 5 rfl rfl) $$ HR Hlev S05 HO; iintro ⟨ZS05, M05, HO⟩
  iapply (wp_left X W K c 1 0 rfl rfl) $$ HR Hlev S10 HO; iintro ⟨ZS10, M10, HO⟩
  iapply (wp_left X W K c 1 1 rfl rfl) $$ HR Hlev S11 HO; iintro ⟨ZS11, M11, HO⟩
  -- part 21
  simp only [k0_part21_eq_skeleton, k0_part21_skel, semSignalWord, semWaitWord, Prog.lift, Prog.bind_op, Prog.bind_ret, Prog.pure_eq_ret, wp_deviceId]
  iapply (wp_left X W K c 1 2 rfl rfl) $$ HR Hlev S12 HO; iintro ⟨ZS12, M12, HO⟩
  iapply (wp_left X W K c 1 3 rfl rfl) $$ HR Hlev S13 HO; iintro ⟨ZS13, M13, HO⟩
  iapply (wp_left X W K c 1 4 rfl rfl) $$ HR Hlev S14 HO; iintro ⟨ZS14, M14, HO⟩
  iapply (wp_left X W K c 1 5 rfl rfl) $$ HR Hlev S15 HO; iintro ⟨ZS15, M15, HO⟩
  unfold wpc; rw [wp_ret]; imodintro
  iapply Hk
  ihave G0 := (unborrow X W c 0) $$ [M00 M01 M02 M03 M04 M05]; · iframe
  ihave G1 := (unborrow X W c 1) $$ [M10 M11 M12 M13 M14 M15]; · iframe
  icases G0 with ⟨⟨B00, B01, B02, B03⟩, P03⟩
  icases G1 with ⟨⟨B10, B11, B12, B13⟩, P13⟩
  ihave P00 := (has_free c (rSlot 0 0) _) $$ L00
  ihave P01 := (has_free c (rSlot 0 1) _) $$ L01
  ihave P02 := (has_free c (rSlot 0 2) _) $$ L02
  ihave P04 := (has_free c (rSlot 0 4) _) $$ L04
  ihave P05 := (has_free c (rSlot 0 5) _) $$ L05
  ihave P10 := (has_free c (rSlot 1 0) _) $$ L10
  ihave P11 := (has_free c (rSlot 1 1) _) $$ L11
  ihave P12 := (has_free c (rSlot 1 2) _) $$ L12
  ihave P14 := (has_free c (rSlot 1 4) _) $$ L14
  ihave P15 := (has_free c (rSlot 1 5) _) $$ L15
  unfold bodyPost zeros rFree bFree
  rw [bigSep_msgs, bigSep_msgs, bigSep_bufs]
  isplitl [ZB ZS00 ZS01 ZS02 ZS03 ZS04 ZS05 ZS10 ZS11 ZS12 ZS13 ZS14 ZS15 ZR00 ZR01 ZR02 ZR03 ZR04 ZR05 ZR10 ZR11 ZR12 ZR13 ZR14 ZR15]
  · iframe
  isplitl [HO]; · iexact HO
  isplitl [Hx Hw HOut]
  · isplitl [Hx]; · iexact Hx
    isplitl [Hw]; · iexact Hw
    iexact HOut
  isplitl [HA]; · iexists _; iexact HA
  iframe

end Cert.KernelIdeal.Ring
-- ==== Proof.Buffers.lean ====
/-
# The scratch buffers, whole and in slots; the result, whatever was there before

A device enters and leaves the kernel with its two message buffers whole; the body works with their slots. And the eight
blocks a device writes cover its result, so nothing remains of what the buffer held.
-/
module

public import proofs.«01_k».proof.Proof.Body

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

section Slots

variable {T : Type} [Fintype T] [DecidableEq T] (c : Dev nD) (b : Ref sig .tc) {sh : Shape} {e : EltTy}
  (m : Memref sig .tc .vmem sh e) (r : T → Rect sh) (hr : ∀ t a, (r t).stride a = 1)
  (hd : ∀ t t', t ≠ t' → Disjoint (r t).set (r t').set)
  (hcov : (Finset.univ : Finset T).biUnion (fun t => (r t).set) = Finset.univ)
include hd hcov

/-- A buffer with anything in it is, slot by slot, slots with anything in them; -/
theorem slots_of_whole (X : sh.Idx → Elt F e) :
    (owns (c : Thread nD τ) m fullShare X : sProp 𝕄) ⊢ bigSep Finset.univ fun t => iprop(∃ v, owns (c : Thread nD τ) (m.slice (r t) (hr t)) fullShare v) := by
  refine (owns_rects (c : Thread nD τ) m fullShare r hr hd hcov X).trans (bigSep_mono fun t _ => ?_)
  exact show (owns (c : Thread nD τ) (m.slice (r t) (hr t)) fullShare (fun j => X ((r t).emb j)) : sProp 𝕄)
      ⊢ iprop(∃ v, owns (c : Thread nD τ) (m.slice (r t) (hr t)) fullShare v) from by iintro H; iexists _; iexact H

/-- and back. -/
theorem whole_of_slots :
    (bigSep Finset.univ fun t => iprop(∃ v, owns (c : Thread nD τ) (m.slice (r t) (hr t)) fullShare v) : sProp 𝕄)
      ⊢ iprop(∃ X, owns (c : Thread nD τ) m fullShare X) := by
  refine (BI.bigSep_exists_pi Finset.univ fun t v => (owns (c : Thread nD τ) (m.slice (r t) (hr t)) fullShare v : sProp 𝕄)).trans ?_
  iintro ⟨%v, H⟩
  iexists Rect.glue r hcov v
  iapply (owns_of_rects (c : Thread nD τ) m fullShare r hr hd hcov (Rect.glue r hcov v))
  have e : (bigSep Finset.univ fun t => (owns (c : Thread nD τ) (m.slice (r t) (hr t)) fullShare (v t) : sProp 𝕄))
      = bigSep Finset.univ fun t => owns (c : Thread nD τ) (m.slice (r t) (hr t)) fullShare fun j => Rect.glue r hcov v ((r t).emb j) :=
    bigSep_congr fun t _ => by rw [show (fun j => Rect.glue r hcov v ((r t).emb j)) = v t from funext fun j => Rect.glue_emb r hcov hd v t j]
  iapply (Entails.of_eq e); iexact H

end Slots

/-- A place of the landing buffer lies in slot `(h, s)` when its first two coordinates are `h` and `s`. -/
theorem rRect_mem (p : Fin 2 × Fin 6) (i : S2x6x256x512.Idx) : i ∈ (rRect p.1 p.2).set ↔ (i 0).val = p.1.val ∧ (i 1).val = p.2.val := by
  rw [Rect.mem_set_unit]
  refine ⟨fun h => ?_, fun h a => ?_⟩
  · have h0 : p.1.val ≤ (i 0).val ∧ (i 0).val < p.1.val + 1 := h 0
    have h1 : p.2.val ≤ (i 1).val ∧ (i 1).val < p.2.val + 1 := h 1
    omega
  · match a with
    | ⟨0, _⟩ => show p.1.val ≤ (i 0).val ∧ (i 0).val < p.1.val + 1; omega
    | ⟨1, _⟩ => show p.2.val ≤ (i 1).val ∧ (i 1).val < p.2.val + 1; omega
    | ⟨2, _⟩ => exact ⟨Nat.zero_le _, (i 2).isLt.trans_eq (Nat.zero_add _).symm⟩
    | ⟨3, _⟩ => exact ⟨Nat.zero_le _, (i 3).isLt.trans_eq (Nat.zero_add _).symm⟩
/-- The same of the send buffer. -/
theorem bRect_mem (p : Fin 2 × Fin 4) (i : S2x4x256x512.Idx) : i ∈ (bRect p.1 p.2).set ↔ (i 0).val = p.1.val ∧ (i 1).val = p.2.val := by
  rw [Rect.mem_set_unit]
  refine ⟨fun h => ?_, fun h a => ?_⟩
  · have h0 : p.1.val ≤ (i 0).val ∧ (i 0).val < p.1.val + 1 := h 0
    have h1 : p.2.val ≤ (i 1).val ∧ (i 1).val < p.2.val + 1 := h 1
    omega
  · match a with
    | ⟨0, _⟩ => show p.1.val ≤ (i 0).val ∧ (i 0).val < p.1.val + 1; omega
    | ⟨1, _⟩ => show p.2.val ≤ (i 1).val ∧ (i 1).val < p.2.val + 1; omega
    | ⟨2, _⟩ => exact ⟨Nat.zero_le _, (i 2).isLt.trans_eq (Nat.zero_add _).symm⟩
    | ⟨3, _⟩ => exact ⟨Nat.zero_le _, (i 3).isLt.trans_eq (Nat.zero_add _).symm⟩

/-- Two slots of the landing buffer share no place. -/
theorem rRect_disjoint (p q : Fin 2 × Fin 6) (h : p ≠ q) : Disjoint (rRect p.1 p.2).set (rRect q.1 q.2).set :=
  Finset.disjoint_left.mpr fun i hp hq => h (by
    have hp := (rRect_mem p i).mp hp; have hq := (rRect_mem q i).mp hq
    exact Prod.ext (Fin.ext (by omega)) (Fin.ext (by omega)))
/-- Nor do two of the send buffer. -/
theorem bRect_disjoint (p q : Fin 2 × Fin 4) (h : p ≠ q) : Disjoint (bRect p.1 p.2).set (bRect q.1 q.2).set :=
  Finset.disjoint_left.mpr fun i hp hq => h (by
    have hp := (bRect_mem p i).mp hp; have hq := (bRect_mem q i).mp hq
    exact Prod.ext (Fin.ext (by omega)) (Fin.ext (by omega)))

/-- The slots of the landing buffer are all of it. -/
theorem rRect_cover : (Finset.univ : Finset (Fin 2 × Fin 6)).biUnion (fun p => (rRect p.1 p.2).set) = Finset.univ :=
  Finset.eq_univ_iff_forall.mpr fun i => Finset.mem_biUnion.mpr ⟨(i 0, i 1), Finset.mem_univ _, (rRect_mem (i 0, i 1) i).mpr ⟨rfl, rfl⟩⟩
/-- Those of the send buffer are all of that. -/
theorem bRect_cover : (Finset.univ : Finset (Fin 2 × Fin 4)).biUnion (fun p => (bRect p.1 p.2).set) = Finset.univ :=
  Finset.eq_univ_iff_forall.mpr fun i => Finset.mem_biUnion.mpr ⟨(i 0, i 1), Finset.mem_univ _, (bRect_mem (i 0, i 1) i).mpr ⟨rfl, rfl⟩⟩

/-- A whole buffer owned is its points-to. -/
theorem owns_whole_eq (c : Dev nD) (b : Ref sig .tc) (X : b.ty.Contents (Elt F)) :
    (owns (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A whole buffer held at `f` is the buffer owned with contents `f`. -/
theorem buf_owns (c : Dev nD) (b : Ref sig .tc) (f : b.ty.Contents (Elt F)) :
    buf (F := F) c b f ⊢ (owns (c : Thread nD τ) (Memref.whole b) fullShare f : sProp 𝕄) := by
  rw [owns_whole_eq]; iintro H; iexists f; isplitr
  · ipureintro; rfl
  · iexact H
/-- And a whole buffer owned is held at some contents. -/
theorem owns_buf (c : Dev nD) (b : Ref sig .tc) :
    iprop(∃ f, owns (c : Thread nD τ) (Memref.whole b) fullShare f) ⊢ (iprop(∃ f : b.ty.Contents (Elt F), buf (F := F) c b f) : sProp 𝕄) := by
  iintro ⟨%f, H⟩
  ihave H := (Entails.of_eq (owns_whole_eq c b f)) $$ H
  icases H with ⟨%g, -, H⟩
  iexists g; iexact H

/-- The whole landing buffer is its slots together. -/
theorem rFree_of (c : Dev nD) (f : cc0_scratch1.ty.Contents (Elt F)) : buf (F := F) c cc0_scratch1 f ⊢ rFree (F := F) c := by
  have h := slots_of_whole c rM (fun p : Fin 2 × Fin 6 => rRect p.1 p.2) (fun _ _ => rfl) rRect_disjoint rRect_cover f
  refine (buf_owns c cc0_scratch1 f).trans h
/-- The slots of the landing buffer together are the whole buffer. -/
theorem of_rFree (c : Dev nD) : rFree (F := F) c ⊢ iprop(∃ f : cc0_scratch1.ty.Contents (Elt F), buf (F := F) c cc0_scratch1 f) := by
  exact (whole_of_slots c rM (fun p : Fin 2 × Fin 6 => rRect p.1 p.2) (fun _ _ => rfl) rRect_disjoint rRect_cover).trans (owns_buf c cc0_scratch1)
/-- The whole send buffer is its slots together. -/
theorem bFree_of (c : Dev nD) (f : cc0_scratch2.ty.Contents (Elt F)) : buf (F := F) c cc0_scratch2 f ⊢ bFree (F := F) c := by
  have h := slots_of_whole c bM (fun p : Fin 2 × Fin 4 => bRect p.1 p.2) (fun _ _ => rfl) bRect_disjoint bRect_cover f
  refine (buf_owns c cc0_scratch2 f).trans h
/-- The slots of the send buffer together are the whole buffer. -/
theorem of_bFree (c : Dev nD) : bFree (F := F) c ⊢ iprop(∃ f : cc0_scratch2.ty.Contents (Elt F), buf (F := F) c cc0_scratch2 f) := by
  exact (whole_of_slots c bM (fun p : Fin 2 × Fin 4 => bRect p.1 p.2) (fun _ _ => rfl) bRect_disjoint bRect_cover).trans (owns_buf c cc0_scratch2)

/-! ## The result, element by element -/

section Result
variable (X : Dev nD → XC F) (W : Dev nD → WC F)

/-- The block that device `c` has of row block `b`, column half `h`, when it finishes. -/
def outBlk (c : Dev nD) (h : Fin 2) (b : Fin 4) : Vec F S256x512 .f32 :=
  if b = own h c then blk X W c h else if b = fwd h c then k0_pay18 (land X W c h 3)
  else if b = snd h c then k0_pay18 (land X W c h 4) else k0_pay18 (land X W c h 5)

/-- An entry of the result after a block is stored: the block's entry inside it, the old one elsewhere. -/
theorem outSet_at (O : OC F) (h : Fin 2) (b : Fin 4) (v : Vec F S256x512 .f32) (j : S1024x1024.Idx) :
    outSet O h b v j = if (⟨(j 0).val / 256, by have h := (j 0).isLt; exact Nat.div_lt_of_lt_mul h⟩ : Fin 4) = b ∧ (⟨(j 1).val / 512, by have h := (j 1).isLt; exact Nat.div_lt_of_lt_mul h⟩ : Fin 2) = h then
      v (ValueIdx.ix2 ⟨(j 0).val % 256, Nat.mod_lt _ (by decide)⟩ ⟨(j 1).val % 512, Nat.mod_lt _ (by decide)⟩) else O j := by
  unfold outSet; simp only [Fin.ext_iff]

/-- An entry of the finished result is an entry of the block that it lies in. -/
theorem result_at (c : Dev nD) (O : OC F) (j : S1024x1024.Idx) :
    result X W c O j = outBlk X W c ⟨(j 1).val / 512, by have h := (j 1).isLt; exact Nat.div_lt_of_lt_mul h⟩ ⟨(j 0).val / 256, by have h := (j 0).isLt; exact Nat.div_lt_of_lt_mul h⟩
      (ValueIdx.ix2 ⟨(j 0).val % 256, Nat.mod_lt _ (by decide)⟩ ⟨(j 1).val % 512, Nat.mod_lt _ (by decide)⟩) := by
  unfold result; simp only [outSet_at]
  generalize (⟨(j 1).val / 512, _⟩ : Fin 2) = h
  generalize (⟨(j 0).val / 256, _⟩ : Fin 4) = b
  unfold outBlk
  have hne := own_ne_fwd h c; have hne1 := own_ne_snd h c; have hne2 := own_ne_fst h c
  have hne3 := fwd_ne_snd h c; have hne4 := fwd_ne_fst h c; have hne5 := snd_ne_fst h c
  have h2 : h = 0 ∨ h = 1 := by omega
  rcases block_cases h c b with rfl | rfl | rfl | rfl <;> rcases h2 with rfl | rfl <;>
    simp [hne, hne1, hne2, hne3, hne4, hne5, hne.symm, hne1.symm, hne2.symm, hne3.symm, hne4.symm, hne5.symm]

/-- Nothing of the buffer's former contents is left. -/
theorem result_indep (c : Dev nD) (O O' : OC F) : result X W c O = result X W c O' :=
  funext fun j => (result_at X W c O j).trans (result_at X W c O' j).symm

end Result

end Cert.KernelIdeal.Ring
-- ==== Proof.Ghost.lean ====
/-
# Setting the protocol up

At launch every device has its semaphores at zero, and the tokens of its own semaphores' duties are minted. This module
turns the semaphores into the protocol's invariants and deals each token to the device that pays the duty: a barrier's
two to its neighbours, a receive's to the neighbour that sends the message. It also reads off what a device is owed.
-/
module

public import proofs.«01_k».proof.Proof.Buffers

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → XC F) (W : Dev nD → WC F)

/-! ## The semaphores -/

/-- The kernel's own semaphores: all but the barrier. -/
abbrev osem (x : Bool × Fin 2 × Fin 6) : SemLoc sig := csem (some x)

/-- The 24 send and receive semaphores are the kernel's own, all different, and none belongs to the staging copies. -/
theorem ownSemFacts : Pipeline.OwnSemFacts cfg0.spec osem where
  isScoped := by decide +kernel
  inj := fun x y h => Option.some.inj (csem_injective h)
  disj := by decide +kernel

/-- Different devices or names give different semaphores. -/
theorem kcell_injective : Function.Injective (kcell : Dev nD × CI → GSem nD τ sig) := fun ⟨c, i⟩ ⟨c', i'⟩ h => by
  have h1 : c = c' := congrArg (fun g : GSem nD τ sig => g.1.1) h
  have h2 : csem i = csem i' := congrArg Prod.snd h
  rw [h1, csem_injective h2]

/-- Over the 25 semaphores: the barrier, then the others; -/
theorem bigSep_CI (Φ : CI → sProp 𝕄) :
    bigSep Finset.univ Φ = iprop(Φ none ∗ bigSep Finset.univ fun x : Bool × Fin 2 × Fin 6 => Φ (some x)) := by
  have e : (Finset.univ : Finset CI).erase none = (Finset.univ : Finset (Bool × Fin 2 × Fin 6)).map Function.Embedding.some := by
    ext i; cases i <;> simp
  rw [bigSep_univ_at Φ none, e, bigSep_map]; rfl
/-- the others, a send and a receive for each message. -/
theorem bigSep_msg2 (Φ : Bool × Fin 2 × Fin 6 → sProp 𝕄) :
    bigSep Finset.univ Φ = bigSep Finset.univ fun p : Fin 2 × Fin 6 => iprop(Φ (false, p) ∗ Φ (true, p)) := by
  rw [bigSep_univ_prod, bigSep_univ_eq_bigSepL [false, true] (by decide) (by decide), bigSep_sep']
  rfl

/-- The kernel's own semaphores at zero, listed as a send and a receive for each message. -/
theorem ownSems0_eq (c : Dev nD) : (Pipeline.ownSems0 (Ix := Unit) (Name := ℕ) (U := UU) (Lvl := ℕ) (Val := Elt F) (τ := τ) osem c : sProp 𝕄)
    = bigSep Finset.univ fun p : Fin 2 × Fin 6 => iprop(semVal (sendCell c p.1 p.2) 0 ∗ semVal (recvCell c p.1 p.2) 0) :=
  bigSep_msg2 fun x => (semVal (kcell (c, some x)) 0 : sProp 𝕄)
/-- The one semaphore that outlives the kernel is the barrier. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-- A device's semaphores at zero, as one family over the 25 names. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (kcell (c, i)) 0 : sProp 𝕄) := by
  rw [ownSems0_eq, unscopedSems0_eq, bigSep_CI, bigSep_msg2]
  iintro ⟨H, HB⟩
  isplitl [HB] <;> iassumption

/-! ## The launch element -/

/-- All semaphores of the protocol. -/
def ringCells : Finset (GSem nD τ sig) := Finset.univ.map ⟨kcell, kcell_injective⟩

/-- A device's duties as minted: its barrier's two, and one of each of its other semaphores. -/
abbrev Tok : Type := Bool ⊕ (Bool × Fin 2 × Fin 6)
/-- The semaphore, round and duty that a minted right to pay is for. -/
abbrev tokOf (cj : Dev nD × Tok) : GSem nD τ sig × ℕ × Bool := match cj.2 with
  | .inl d => (barCell cj.1, 0, d)
  | .inr x => (kcell (cj.1, some x), 0, false)
/-- Different rights are for different duties. -/
theorem tokOf_injective : Function.Injective (tokOf : Dev nD × Tok → GSem nD τ sig × ℕ × Bool) := by
  rintro ⟨c, j⟩ ⟨c', j'⟩ h
  rcases j with d | x <;> rcases j' with d' | x' <;>
    have h1 := kcell_injective (congrArg Prod.fst h) <;> have h2 := congrArg (fun t : GSem nD τ sig × ℕ × Bool => t.2.2) h
  · exact Prod.ext (congrArg (fun t : Dev nD × CI => t.1) h1) (congrArg Sum.inl h2)
  · cases congrArg Prod.snd h1
  · cases congrArg Prod.snd h1
  · exact Prod.ext (congrArg (fun t : Dev nD × CI => t.1) h1) (congrArg Sum.inr (Option.some.inj (congrArg Prod.snd h1)))
/-- All rights to pay of the protocol. -/
def ringToks : Finset (GSem nD τ sig × ℕ × Bool) := Finset.univ.map ⟨tokOf, tokOf_injective⟩

/-- What the launch starts from: the region's own element, and every semaphore of the protocol in its first round. -/
def u₀ : UU :=
  (initOf (Pipeline.cells cfgs cellOf_inj) (Pipeline.launchToks cfgs cellOf_inj), initOf ringCells ringToks)

/-- The duty tokens of device `c`'s own semaphores. -/
def toks (c : Dev nD) : sProp 𝕄 :=
  iprop((dutyTok ER (barCell c) 0 false ∗ dutyTok ER (barCell c) 0 true)
    ∗ bigSep Finset.univ fun p : Fin 2 × Fin 6 => iprop(dutyTok ER (sendCell c p.1 p.2) 0 false ∗ dutyTok ER (recvCell c p.1 p.2) 0 false))

/-- What the launch deals device `c`. -/
def G (c : Dev nD) : sProp 𝕄 :=
  iprop((bigSep Finset.univ fun i : CI => roundState ER (rd X W) (kcell (c, i)) 0)
    ∗ (bigSep Finset.univ fun i : CI => iprop(atPos ER (kcell (c, i)) 0 ∅ 0 ∗ reached ER (kcell (c, i)) 0)) ∗ toks c)

/-- The protocol's starting element gives every device its share. -/
theorem fund_ring : BI.own (ER (initOf ringCells ringToks)) ⊢ (|==> bigSep Finset.univ (G X W) : sProp 𝕄) := by
  have hX (Φ : GSem nD τ sig → sProp 𝕄) : bigSep ringCells Φ = bigSep Finset.univ fun c : Dev nD => bigSep Finset.univ fun i : CI => Φ (kcell (c, i)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks
    rw [bigSep_univ_sum, bigSep_univ_eq_bigSepL [false, true] (by decide) (by decide), bigSep_msg2]
    rfl
  iintro HX
  imod (Rounds.fund ER (rd X W) ringCells ringToks) $$ HX with ⟨Hst, Hr, Hat, Htok⟩
  imodintro
  ihave Hst' := (Entails.of_eq (hX fun g => roundState ER (rd X W) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- A device's semaphores at zero, with its share, set up the invariants of its 25 semaphores. -/
theorem core_alloc (c : Dev nD) :
    iprop(Pipeline.ownSems0 (Ix := Unit) (Name := ℕ) (U := UU) (Lvl := ℕ) (Val := Elt F) (τ := τ) osem c ∗ unscopedSems0 c ∗ G X W c)
      ⊢ |={Set.univ}=> iprop((bigSep Finset.univ fun i => iprop(∃ κ : ℕ, cellInv ER (rd X W) κ (kcell (c, i))))
          ∗ (bigSep Finset.univ fun i => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : CI => semVal (kcell (c, i)) 0) ∗ bigSep Finset.univ fun i : CI => roundState ER (rd X W) (kcell (c, i)) 0)
      ⊢ (|={Set.univ}=> bigSep Finset.univ fun i => iprop(∃ κ : ℕ, cellInv ER (rd X W) κ (kcell (c, i))) : sProp 𝕄) from by
        rw [← bigSep_sep']
        exact (bigSep_mono fun i _ => (Rounds.body_intro ER (rd X W) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt to their payers -/

/-- The tokens of the duties device `c` pays. -/
def payToks (c : Dev nD) : sProp 𝕄 :=
  iprop((dutyTok ER (barCell (nb false c)) 0 false ∗ dutyTok ER (barCell (nb true c)) 0 true)
    ∗ bigSep Finset.univ fun p : Fin 2 × Fin 6 => iprop(dutyTok ER (sendCell c p.1 p.2) 0 false ∗ dutyTok ER (recvCell (peer c p.1 p.2) p.1 p.2) 0 false))

/-- The rights minted semaphore by semaphore are those that the devices pay, passed to the neighbour that pays. -/
theorem toks_around : (bigSep Finset.univ fun c : Dev nD => (toks c : sProp 𝕄)) ⊢ bigSep Finset.univ fun c : Dev nD => payToks c := by
  have hr : (bigSep Finset.univ fun c : Dev nD => bigSep Finset.univ fun p : Fin 2 × Fin 6 => (dutyTok ER (recvCell c p.1 p.2) 0 false : sProp 𝕄))
      = bigSep Finset.univ fun c : Dev nD => bigSep Finset.univ fun p : Fin 2 × Fin 6 => dutyTok ER (recvCell (peer c p.1 p.2) p.1 p.2) 0 false := by
    rw [BI.bigSep_univ_comm, BI.bigSep_univ_comm (fun (c : Dev nD) (p : Fin 2 × Fin 6) => (dutyTok ER (recvCell (peer c p.1 p.2) p.1 p.2) 0 false : sProp 𝕄))]
    exact bigSep_congr fun p _ => bigSep_univ_equiv (nbEquiv (via p.1 p.2)) (fun c : Dev nD => (dutyTok ER (recvCell c p.1 p.2) 0 false : sProp 𝕄))
  unfold toks payToks
  simp only [bigSep_sep']
  rw [hr, bigSep_univ_equiv (nbEquiv false) (fun c : Dev nD => (dutyTok ER (barCell c) 0 false : sProp 𝕄)),
    bigSep_univ_equiv (nbEquiv true) (fun c : Dev nD => (dutyTok ER (barCell c) 0 true : sProp 𝕄))]
  exact BI.Entails.refl _

/-- What is device `c`'s alone: its places, and the tokens of the duties it pays. -/
def linear (c : Dev nD) : sProp 𝕄 := iprop((bigSep Finset.univ fun i : CI => atPos ER (kcell (c, i)) 0 ∅ 0) ∗ payToks c)

/-- What device `c` starts its region with. -/
def G' (c : Dev nD) : sProp 𝕄 := iprop((∃ K, records X W K) ∗ linear (F := F) c)

/-- A fact that may be used again and again helps at every member of a family. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- What all devices have after the set-up, dealt out so that each has the records and its own share. -/
theorem regroup :
    (bigSep Finset.univ fun c : Dev nD => iprop((bigSep Finset.univ fun i => iprop(∃ κ : ℕ, cellInv ER (rd X W) κ (kcell (c, i))))
          ∗ (bigSep Finset.univ fun i => iprop(atPos ER (kcell (c, i)) 0 ∅ 0 ∗ reached ER (kcell (c, i)) 0)) ∗ toks c) : sProp 𝕄)
      ⊢ bigSep Finset.univ (G' X W) := by
  rw [bigSep_sep', bigSep_sep', ← bigSep_univ_prod (fun ci : Dev nD × CI => iprop(∃ κ : ℕ, cellInv ER (rd X W) κ (kcell ci))),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun ci : Dev nD × CI => (reached ER (kcell ci) 0 : sProp 𝕄))]
  iintro ⟨HI, ⟨Hat, #HR⟩, Htok⟩
  ihave HK := (BI.bigSep_exists_pi Finset.univ (fun (ci : Dev nD × CI) (κ : ℕ) => (cellInv ER (rd X W) κ (kcell ci) : sProp 𝕄))) $$ HI
  icases HK with ⟨%K, #HI⟩
  ihave Htk := (toks_around (F := F)) $$ Htok
  iapply (bigSep_with_persistent (R := records X W K) (Φ := linear (F := F)) fun c _ => show iprop(records X W K ∗ linear (F := F) c) ⊢ G' X W c from by
    unfold G'; iintro ⟨HR, HL⟩
    isplitl [HR]; · iexists K; iexact HR
    iexact HL)
  isplitr
  · unfold records; isplitl; · iexact HI
    iexact HR
  · have e : bigSep Finset.univ (linear (F := F)) = iprop((bigSep Finset.univ fun c : Dev nD => bigSep Finset.univ fun i : CI => (atPos ER (kcell (c, i)) 0 ∅ 0 : sProp 𝕄))
        ∗ bigSep Finset.univ fun c : Dev nD => payToks c) := by unfold linear; rw [bigSep_sep']
    iapply (Entails.of_eq e.symm)
    isplitl [Hat]; · iexact Hat
    iexact Htk

/-- The set-up over all the devices at once. -/
theorem glob : (bigSep Finset.univ fun c => iprop(Pipeline.ownSems0 (Ix := Unit) (Name := ℕ) (U := UU) (Lvl := ℕ) (Val := Elt F) (τ := τ) osem c ∗ unscopedSems0 c ∗ G X W c) : sProp 𝕄)
    ⊢ |={Set.univ}=> bigSep Finset.univ (G' X W) :=
  ((bigSep_mono fun c _ => core_alloc X W c).trans (bigSep_fupd _ _)).trans (BI.fupd_mono (regroup X W))

/-! ## What a device is owed at launch -/

/-- Messages owe nothing to a barrier. -/
theorem tal_bar (d c : Dev nD) (l : List (Fin 2 × Fin 6)) : tal d l (barCell c) () = 0 := by
  induction l with
  | nil => rfl
  | cons p l ih =>
    unfold tal
    rw [Pi.add_apply, Finsupp.add_apply, ih, tallyAt_apply, if_neg fun h => by cases congrArg Prod.snd (kcell_injective h.1)]

/-- Messages owe a receive semaphore a message's size for each time its slot is listed, if it is the sender's. -/
theorem tal_recv (d c : Dev nD) (h : Fin 2) (s : Fin 6) (l : List (Fin 2 × Fin 6)) :
    tal d l (recvCell c h s) () = if d = peer c h s then l.count (h, s) * N else 0 := by
  induction l with
  | nil => simp [tal]
  | cons p l ih =>
    unfold tal
    rw [Pi.add_apply, Finsupp.add_apply, ih, tallyAt_apply, List.count_cons]
    by_cases hp : p = (h, s)
    · subst hp
      by_cases hd : d = peer c h s
      · subst hd
        rw [if_pos rfl, if_pos ⟨by unfold peer; rw [nb_nb], rfl⟩, if_pos rfl, if_pos (by simp), Nat.add_mul, Nat.one_mul]
      · rw [if_neg hd, if_neg hd, if_neg fun h' => hd ?_]
        have := congrArg Prod.fst (kcell_injective h'.1)
        rw [show c = peer d h s from this]; unfold peer; rw [nb_nb]
    · rw [if_neg (c := _ ∧ _) fun h' => hp ?_, if_neg (c := (p == (h, s)) = true) (by simpa using hp)]
      · rfl
      · have h2 := congrArg Prod.snd (kcell_injective h'.1)
        have h3 := congrArg Prod.snd (Option.some.inj h2)
        exact h3.symm

/-- At launch a barrier is owed one unit by each of its device's two neighbours. -/
theorem owed_bar (d c : Dev nD) : O₀ d (barCell c) () = (if d = nb true c then 1 else 0) + (if d = nb false c then 1 else 0) := by
  have hb (b : Bool) : (tallyAt (barCell (nb b d)) () 1 : CellTallies nD τ sig Unit) (barCell c) () = if d = nb b c then 1 else 0 := by
    rw [tallyAt_apply]
    by_cases h : d = nb b c
    · subst h; rw [nb_nb, if_pos ⟨rfl, rfl⟩, if_pos rfl]
    · rw [if_neg fun h' => h ?_, if_neg h]
      rw [show c = nb b d from congrArg Prod.fst (kcell_injective h'.1), nb_nb]
  unfold O₀ O₁
  rw [Pi.add_apply, Finsupp.add_apply, Pi.add_apply, Finsupp.add_apply, tal_bar, hb, hb, Nat.zero_add]

/-- At launch a receive semaphore is owed one message by the neighbour at its other end, and nothing by others. -/
theorem owed_recv (d c : Dev nD) (h : Fin 2) (s : Fin 6) : O₀ d (recvCell c h s) () = if d = peer c h s then N else 0 := by
  have hb (b : Bool) : (tallyAt (barCell (nb b d)) () 1 : CellTallies nD τ sig Unit) (recvCell c h s) () = 0 := by
    rw [tallyAt_apply, if_neg fun h => by cases congrArg Prod.snd (kcell_injective h.1)]
  unfold O₀ O₁
  rw [Pi.add_apply, Finsupp.add_apply, Pi.add_apply, Finsupp.add_apply, tal_recv, hb, hb, Nat.add_zero,
    (by decide : ∀ h s, order.count (h, s) = 1) h s, Nat.one_mul]

/-- So the credit of a barrier at launch is two, -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (nb true c) fun _ => 1, Finset.sum_ite_eq' Finset.univ (nb false c) fun _ => 1, if_pos (Finset.mem_univ _), if_pos (Finset.mem_univ _)]

/-- and that of a receive semaphore one message. -/
theorem launch_recv (c : Dev nD) (h : Fin 2) (s : Fin 6) :
    tallyOn (recvCell c h s) (launchCredit (Pipeline.owing O₀) 0 (recvCell c h s)) = (tallyAt (recvCell c h s) () N : CellTallies nD τ sig Unit) := by
  unfold tallyAt; refine congrArg _ (Finsupp.ext fun u => ?_); cases u
  rw [Pipeline.launchCredit_owing, Finsupp.single_eq_same, Finset.sum_congr rfl fun d _ => owed_recv d c h s, Finset.sum_ite_eq' Finset.univ (peer c h s) fun _ => N,
    if_pos (Finset.mem_univ _)]

/-- What a device may wait for: two units at its barrier, and one message at each receive semaphore. -/
theorem creds (c : Dev nD) :
    (Pipeline.launchCred O₀ c : sProp 𝕄) ⊢ iprop(cred (tallyAt (barCell c) () 2) ∗ bigSep Finset.univ fun p : Fin 2 × Fin 6 => cred (tallyAt (recvCell c p.1 p.2) () N)) := by
  unfold Pipeline.launchCred
  refine (bigSep_subset (Finset.subset_univ (Finset.univ.map ⟨csem, csem_injective⟩))).trans ?_
  rw [bigSep_map, bigSep_CI, bigSep_msg2]
  refine BI.sep_mono (Entails.of_eq (congrArg cred (launch_bar c))) (bigSep_mono fun p _ => ?_)
  exact show iprop(cred (tallyOn (sendCell c p.1 p.2) (launchCredit (Pipeline.owing O₀) 0 (sendCell c p.1 p.2)))
      ∗ cred (tallyOn (recvCell c p.1 p.2) (launchCredit (Pipeline.owing O₀) 0 (recvCell c p.1 p.2))))
    ⊢ (cred (tallyAt (recvCell c p.1 p.2) () N) : sProp 𝕄) from by
      rw [launch_recv]; iintro ⟨-, H⟩; iexact H

end Cert.KernelIdeal.Ring
-- ==== Proof.Run.lean ====
/-
# The run

Every weakly fair execution of the four devices' kernel terminates with each device's result buffer at the product's
value, its arguments as they were and every semaphore at zero: the launch of the body of `Proof.Body`, at any float
values.
-/
module

public import proofs.«01_k».proof.Proof.Ghost
public import Idealize.ShloMosaic.Lib.Pipeline.CollectiveSegs

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The launch memory, every counter at zero. -/
def s₀ : MemSt nD τ sig (Elt F) := ⟨m, fun _ => 0, ρ⟩

/-- What each device's kernel is given of its `x`. -/
def xs (c : Dev nD) : XC F := (win0_0.blk (0 : Fin 1)).view.read (Elt F) (m ((c : Thread nD τ).loc main_arg0))
/-- What each device's kernel is given of its `w`. -/
def ws (c : Dev nD) : WC F := (win0_1.blk (0 : Fin 1)).view.read (Elt F) (m ((c : Thread nD τ).loc main_arg1))
/-- What it leaves. -/
def out (c : Dev nD) : OC F := result (xs m) (ws m) c fun _ => (Elt.inhabited F _).default

/-! ## The proof data of the region -/

/-- What a device holds beside the staged arrays before its body runs, -/
def Φ₀ (c : Dev nD) : sProp 𝕄 := iprop(start (xs m) (ws m) c ∗ (∃ A : AC F, buf (F := F) c cc0_scratch0 A) ∗ rFree (F := F) c ∗ bFree (F := F) c)
/-- and after. -/
def Φ₁ (c : Dev nD) : sProp 𝕄 := iprop(zeros (F := F) c ∗ (∃ A : AC F, buf (F := F) c cc0_scratch0 A) ∗ rFree (F := F) c ∗ bFree (F := F) c)

/-- The region's data: the arrays at launch, the staged arrays after the body, what is held before and after, what is
    owed. -/
def dats (_ : Fin 1) (c : Dev nD) : Dat τ (Elt F) Unit ℕ UU ℕ cfg0 c where
  A w := m ((cfg0.win w).arr.view.loc (c : Thread nD τ))
  after w _ := match w with
    | ⟨0, _⟩ => xs m c
    | ⟨1, _⟩ => ws m c
    | ⟨2, _⟩ => out m c
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The body, as the region calls it -/

/-- A whole staged array, held at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the region hands the body, -/
def regionPre (c : Dev nD) : sProp 𝕄 :=
  iprop(Φ₀ m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))
/-- and what it wants back. -/
def regionPost (c : Dev nD) : sProp 𝕄 :=
  iprop(Φ₁ (F := F) c ∗ (dats m 0 c).owesAt () t0_0.succ
    ∗ stg c cc0_stg0_0 (xs m c) ∗ stg c cc0_stg1_0 (ws m c) ∗ stg c cc0_stg2_0 (out m c))

/-- What the region hands over is what the body starts from. -/
theorem region_intro (c : Dev nD) : regionPre m c ⊢ iprop(∃ A O, bodyPre (xs m) (ws m) c A O) := by
  unfold regionPre Φ₀ bodyPre owing Dat.owesAt Pipeline.owesWithin
  iintro ⟨⟨Hs, ⟨%A, HA⟩, Hr, Hb⟩, ⟨%Wt, %hW, HO⟩, ⟨%d0, %g0, %h0, Hx⟩, ⟨%d1, %g1, %h1, Hw⟩, ⟨%d2, %g2, %h2, Ho⟩⟩
  have hx : g0 = xs m c := by rw [h0]; unfold Dat.before; rw [if_pos (fetch0_0 t0_0)]; rfl
  have hw : g1 = ws m c := by rw [h1]; unfold Dat.before; rw [if_pos (fetch0_1 t0_0)]; rfl
  subst hx hw
  rw [show (dats m 0 c).owed t0_0.castSucc = O₀ c from rfl]
  iexists A; iexists g2
  isplitl [Hs]; · iexact Hs
  isplitl [HO]; · iexists Wt; iexact HO
  isplitl [Hx Hw Ho]
  · isplitl [Hx]; · iexact Hx
    isplitl [Hw] <;> iassumption
  isplitl [HA]; · iexact HA
  isplitl [Hr] <;> iassumption

/-- What the body ends with is what the region wants back. -/
theorem region_elim (c : Dev nD) (O : OC F) : bodyPost (xs m) (ws m) c O ⊢ regionPost m c := by
  unfold regionPost Φ₁ bodyPost owing Dat.owesAt Pipeline.owesWithin
  rw [show (dats m 0 c).owed t0_0.succ = 0 from rfl, result_indep (xs m) (ws m) c O fun _ => (Elt.inhabited F _).default]
  iintro ⟨Hz, ⟨%Wt, HO⟩, ⟨Hx, Hw, Ho⟩, HA, Hr, Hb⟩
  isplitl [Hz HA Hr Hb]
  · isplitl [Hz]; · iexact Hz
    isplitl [HA]; · iexact HA
    isplitl [Hr] <;> iassumption
  isplitl [HO]
  · iexists Wt
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

/-- The body meets the region's specification on device `c`. -/
theorem body_obligation (c : Dev nD) : BodyObligation (dats m 0 c) (defs₀ (F := F)) 𝒱₀ () Set.univ := fun t => by
  rw [fin_N0 t]
  rw [bigSep_W0, bigSep_W0]
  simp only [owns_whole_eq]
  show regionPre m c ⊢ wpc c (cc0_body xM (Memref.isWhole_whole _) wM (Memref.isWhole_whole _) oM (Memref.isWhole_whole _)
    aM (Memref.isWhole_whole _) rM (Memref.isWhole_whole _) bM (Memref.isWhole_whole _) cc0_scratch3 cc0_scratch4) (fun _ => regionPost m c)
  iintro H
  ihave H := (region_intro m c) $$ H
  icases H with ⟨%A, %O, H⟩
  iapply (sound_body (xs m) (ws m) c A O fun _ => regionPost m c)
  isplitl [H]; · iexact H
  iintro H
  iapply (region_elim m c O); iexact H

/-! ## The launch -/

/-- The region holds each of its arrays whole. -/
theorem share_eq (c : Dev nD) (w : Fin cfg0.W) : (dats m 0 c).share w = fullShare := by unfold Dat.share; split <;> rfl

/-- A device's positions, its barrier's apart from its messages'. -/
theorem positions (c : Dev nD) :
    (bigSep Finset.univ fun i : CI => (atPos ER (kcell (c, i)) 0 ∅ 0 : sProp 𝕄))
      ⊢ iprop(atPos ER (barCell c) 0 ∅ 0
        ∗ bigSep Finset.univ fun p : Fin 2 × Fin 6 => iprop(atPos ER (sendCell c p.1 p.2) 0 ∅ 0 ∗ atPos ER (recvCell c p.1 p.2) 0 ∅ 0)) := by
  rw [bigSep_CI, bigSep_msg2]

/-- What a device is dealt at launch is what its body needs beside its buffers. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xs m) (ws m) c)
      ⊢ |={Set.univ}=> iprop(start (xs m) (ws m) c ∗ emp) := by
  iintro ⟨-, Hlev, Hcr, -, HG⟩
  ihave Hc := (creds (F := F) c) $$ Hcr
  icases Hc with ⟨Hb, Hr⟩
  unfold start G' linear payToks
  icases HG with ⟨HK, Hat, Htb, Htm⟩
  ihave Hat := (positions (F := F) c) $$ Hat
  icases Hat with ⟨HaB, Ham⟩
  imodintro
  isplitl
  · isplitl [HK]; · iexact HK
    isplitl [Hlev]; · iexact Hlev
    isplitl [HaB Hb]; · isplitl [HaB] <;> iassumption
    isplitl [Htb]; · iexact Htb
    have h : iprop((bigSep Finset.univ fun p : Fin 2 × Fin 6 => iprop(atPos ER (sendCell c p.1 p.2) 0 ∅ 0 ∗ atPos ER (recvCell c p.1 p.2) 0 ∅ 0))
        ∗ (bigSep Finset.univ fun p : Fin 2 × Fin 6 => iprop(dutyTok ER (sendCell c p.1 p.2) 0 false ∗ dutyTok ER (recvCell (peer c p.1 p.2) p.1 p.2) 0 false))
        ∗ bigSep Finset.univ fun p : Fin 2 × Fin 6 => cred (tallyAt (recvCell c p.1 p.2) () N))
        ⊢ (bigSep Finset.univ fun p : Fin 2 × Fin 6 => iprop(toSend (F := F) c p.1 p.2 ∗ toRecv (F := F) c p.1 p.2) : sProp 𝕄) := by
      rw [← bigSep_sep', ← bigSep_sep']
      refine bigSep_mono fun p _ => ?_
      exact show iprop((atPos ER (sendCell c p.1 p.2) 0 ∅ 0 ∗ atPos ER (recvCell c p.1 p.2) 0 ∅ 0)
          ∗ (dutyTok ER (sendCell c p.1 p.2) 0 false ∗ dutyTok ER (recvCell (peer c p.1 p.2) p.1 p.2) 0 false) ∗ cred (tallyAt (recvCell c p.1 p.2) () N))
        ⊢ (iprop(toSend (F := F) c p.1 p.2 ∗ toRecv (F := F) c p.1 p.2) : sProp 𝕄) from by
          unfold toSend toRecv
          iintro ⟨⟨Hs, Hr⟩, ⟨Hts, Htr⟩, Hc⟩
          isplitl [Hs Hts Htr]
          · isplitl [Hts]; · iexact Hts
            isplitl [Htr] <;> iassumption
          isplitl [Hr] <;> iassumption
    iapply h
    isplitl [Ham]; · iexact Ham
    isplitl [Htm] <;> iassumption
  · iempintro

/-- With the scratch buffers, cut into slots, it is what is held before the body. -/
theorem phi0_intro (c : Dev nD) :
    iprop(start (xs m) (ws m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, HA, ⟨%f, Hr⟩, ⟨%g, Hb⟩⟩
  isplitl [Hs]; · iexact Hs
  isplitl [HA]; · iexact HA
  isplitl [Hr]; · iapply (rFree_of c f); iexact Hr
  iapply (bFree_of c g); iexact Hb

/-- What is held after the body gives back every semaphore at zero and the scratch buffers whole. -/
theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq]
  unfold Φ₁ zeros
  iintro ⟨⟨HB, Hz⟩, HA, Hr, Hb⟩
  isplitl [HB]; · iexact HB
  isplitl [Hz]; · iexact Hz
  isplitl [HA]; · iexact HA
  isplitl [Hr]; · iapply (of_rFree c); iexact Hr
  iapply (of_bFree c); iexact Hb

/-- The waits of the staging copies may always be made. -/
theorem waits (c : Dev nD) : (levAts L lv : sProp 𝕄) ⊢ Pipeline.cellsWaits cfgs (dats m) () 0 c :=
  Pipeline.cellsWaits_intro cfgs (dats m) () 0 c fun w s t =>
    mayWait_stage c _ (by revert c; fin_cases w <;> fin_cases s <;> decide +kernel) _ (by
      rcases t with ⟨_ | _, ht⟩
      · exact Or.inl rfl
      · exact Or.inr rfl)

/-! ## The run -/

/-- The region's arrays when it is over. -/
def finalA (c : Dev nD) (w : Fin cfg0.W) : Buf (Elt F) ((cfg0.win w).arr.view.loc (c : Thread nD τ)) := (dats m 0 c).arrAt w cfg0.N

/-- Every array of the region holds its final contents, on every device. -/
def QC : PUnit × MemSt nD τ sig (Elt F) → Prop := fun r =>
  ∀ c : Dev nD, ∀ w : Fin cfg0.W, r.2.mem ((cfg0.win w).arr.view.loc (c : Thread nD τ)) = finalA m c w

/-- Every run ends with the region's arrays at their final contents and every semaphore at zero. -/
theorem run_arrays : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (xs m) (ws m)) (G' := G' (xs m) (ws m)) (u₀ := u₀)
    (hu₀ := by
      unfold u₀
      iintro Hu
      ihave H := (ownU_pair _ _) $$ Hu
      icases H with ⟨HP, HX⟩
      imod (fund_ring (xs m) (ws m)) $$ HX with HG
      imodintro
      isplitl [HP] <;> iassumption)
    (hglob := glob (xs m) (ws m))
    (hA := fun _ _ => rfl) (hpf := fun _ k => k.elim0)
    (X := start (xs m) (ws m)) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- What the kernel is given of `x` is the device's whole argument array. -/
theorem xs_eq (c : Dev nD) : xs m c = m ((c : Thread nD τ).loc main_arg0) := by
  funext j; unfold xs
  refine congrArg (m ((c : Thread nD τ).loc main_arg0)) (funext fun a => Fin.ext ?_)
  blk_simp
  rw [show win0_0.index (0 : Fin 1) a = 0 from by revert a; decide, Nat.zero_mul, Nat.zero_add]
/-- What the kernel is given of `w` is the device's whole argument array. -/
theorem ws_eq (c : Dev nD) : ws m c = m ((c : Thread nD τ).loc main_arg1) := by
  funext j; unfold ws
  refine congrArg (m ((c : Thread nD τ).loc main_arg1)) (funext fun a => Fin.ext ?_)
  blk_simp
  rw [show win0_1.index (0 : Fin 1) a = 0 from by revert a; decide, Nat.zero_mul, Nat.zero_add]

/-- After the run the array of `x` is as it was. -/
theorem finalA_x (c : Dev nD) : finalA m c (0 : Fin 3) = m ((c : Thread nD τ).loc main_arg0) := (dats m 0 c).arrAt_in (0 : Fin 3) rfl _
/-- The array of `w` is as it was. -/
theorem finalA_w (c : Dev nD) : finalA m c (1 : Fin 3) = m ((c : Thread nD τ).loc main_arg1) := (dats m 0 c).arrAt_in (1 : Fin 3) rfl _
/-- The result array holds what the body leaves. -/
theorem finalA_out (c : Dev nD) : finalA m c (2 : Fin 3) = out m c := by
  refine (dats m 0 c).arrAt_eq_of_after_last (2 : Fin 3) t0_0 (by decide +kernel) _ fun j => ?_
  blk_simp
  rfl

/-- Every run terminates with each device's result at `out`, its arguments as they were and every semaphore at zero. -/
theorem run_main : θ_run defs (onTc (τ := τ) (main (F := F))) ⟨m, fun _ => 0, ρ⟩ (fun r => (∀ c : Dev nD,
    r.2.mem ((c : Thread nD τ).loc main_v1) = out m c
    ∧ r.2.mem ((c : Thread nD τ).loc main_arg0) = m ((c : Thread nD τ).loc main_arg0)
    ∧ r.2.mem ((c : Thread nD τ).loc main_arg1) = m ((c : Thread nD τ).loc main_arg1)) ∧ r.2.sem = fun _ => 0) :=
  (θ_run defs _ _).mono (fun _ h => ⟨fun c => ⟨(h.1 c 2).trans (finalA_out m c), (h.1 c 0).trans (finalA_x m c), (h.1 c 1).trans (finalA_w m c)⟩, h.2⟩)
    (run_arrays m ρ)

end Cert.KernelIdeal.Ring
-- ==== Proof.Value.lean ====
/-
# The value

Over the extended reals the result every device is left with is the rectified product of the whole arrays: each block
of it is the rectified sum of the four devices' partial products, and a partial product is the part of the contraction
over that device's columns of `x` and rows of `w`.
-/
module

public import proofs.«01_k».proof.Proof.Run
public import proofs.«01_k».proof.Proof.Gen.ReferenceIdeal.Run
public import Idealize.ShloMosaic.Lib.MatmulPlain
public import Idealize.ShloMosaic.Lib.StackMember
public import Idealize.ShloMosaic.Lib.ValueIdx
public import Idealize.ShloMosaic.Lib.Layout

@[expose] public section

set_option maxRecDepth 16384

noncomputable section

namespace Cert.KernelIdeal.Ring

open Cert.KernelIdeal Cert.KernelIdeal.Gen
open Idealize.ShloMosaic
open Idealize.ShloMosaic.TcCoe
open Idealize.ShloMosaic.ValueIdx
open Idealize.SL.Sem

variable (X : Dev nD → XC Ideal) (W : Dev nD → WC Ideal)

/-! ## Partial products -/

/-- Device `d`'s part of entry `(r, q)` of the product: the contraction over its 256 columns of `x`. -/
def prod (d : Dev nD) (r q : Fin 1024) : EReal := ∑ k : Fin 256, X d (ix2 r k) * W d (ix2 k q)

set_option backward.proofsInPublic true in
/-- Row `i` of row block `b` of the result. -/
def row (b : Fin 4) (i : Fin 256) : Fin 1024 := ⟨256 * b.val + i.val, by omega⟩
set_option backward.proofsInPublic true in
/-- Column `i` of column half `h` of the result. -/
def col (h : Fin 2) (i : Fin 512) : Fin 1024 := ⟨512 * h.val + i.val, by omega⟩

/-- A block with two leading unit axes, read as a matrix. -/
theorem cast_drop {α : Type} (v : S1x1x256x512.Idx → α) (i : Fin 256) (j : Fin 512) :
    shapeCast S256x512 v shapeCasts_S1x1x256x512_S256x512 (ix2 i j) = v (ix4 0 0 i j) := by
  refine shapeCast_apply v _ _ _ ?_
  rw [Shape.rowMajor_val_four, Shape.rowMajor_val_two]; simp
/-- A matrix, read as a block with two leading unit axes. -/
theorem cast_add {α : Type} (v : S256x512.Idx → α) (i : Fin 256) (j : Fin 512) :
    shapeCast S1x1x256x512 v shapeCasts_S256x512_S1x1x256x512 (ix4 0 0 i j) = v (ix2 i j) := by
  refine shapeCast_apply v _ _ _ ?_
  rw [Shape.rowMajor_val_four, Shape.rowMajor_val_two]; simp

/-- What is sent of block `(h, b)` is the partial product there. -/
theorem part_apply (c : Dev nD) (h : Fin 2) (b : Fin 4) (i : Fin 256) (j : Fin 512) :
    part X W c h b (ix4 0 0 i j) = prod X W c (row b i) (col h j) := by
  unfold part k0_pay1
  rw [cast_add, truncf_apply, shapeCast_shapeCast, shapeCast_self, shapeCast_self]
  show FloatOps.matmul (DotDims.plain 256 256 512) none _ _ _ (ix2 i j) = _
  rw [Ideal.matmul_plain_apply, constant_apply, Ideal.ofBits_zero_f32, zero_add]
  rfl

set_option backward.proofsInPublic true in
/-- What is kept, at place `p` of the pair that block `b` stands at, is the partial product of block `b`. -/
theorem keptI_apply (c : Dev nD) (h : Fin 2) (p : Fin 2) (b : Fin 4) (hb : b.val = (keep h c).val + p.val) (i : Fin 256) (j : Fin 512) :
    keptI X W c h p (ix4 0 0 i j) = prod X W c (row b i) (col h j) := by
  have hi : 256 * p.val + i.val < 512 := by omega
  have hd : ∀ v : S2x256x512.Idx → EReal, shapeCast S1x2x256x512 v shapeCasts_S2x256x512_S1x2x256x512 (ix4 0 p i j) = v (ix3 p i j) := fun v => by
    refine shapeCast_apply v _ _ _ ?_
    rw [Shape.rowMajor_val_four, Shape.rowMajor_val_three]; simp
  have hs : ∀ v : S512x512.Idx → EReal, shapeCast S2x256x512 v shapeCasts_S512x512_S2x256x512 (ix3 p i j) = v (ix2 ⟨256 * p.val + i.val, hi⟩ j) := fun v => by
    refine shapeCast_apply v _ _ _ ?_
    rw [Shape.rowMajor_val_two, Shape.rowMajor_val_three]
    show (256 * p.val + i.val) * 512 + j.val = (p.val * 256 + i.val) * 512 + j.val
    omega
  show k0_pay8 (xB2 (X c) (keep h c)) (wB (W c) h) (ix4 0 p i j) = _
  unfold k0_pay8
  rw [hd, hs, shapeCast_self, shapeCast_self]
  show FloatOps.matmul (DotDims.plain 512 256 512) none _ _ _ (ix2 _ j) = _
  rw [Ideal.matmul_plain_apply, constant_apply, Ideal.ofBits_zero_f32, zero_add]
  refine Finset.sum_congr rfl fun k _ => congrArg₂ (· * ·) (congrArg (X c) ?_) rfl
  refine congrArg (fun r => ix2 r k) (Fin.ext ?_)
  show 256 * (keep h c).val + (256 * p.val + i.val) = 256 * b.val + i.val
  omega

/-! ## The messages and the blocks -/

/-- The message of slot 2 is the device's partial product and its first neighbour's, added. -/
theorem msg2_apply (c : Dev nD) (h : Fin 2) (i : Fin 256) (j : Fin 512) :
    msg2 X W c h (ix4 0 0 i j) = prod X W c (row (fwd h c) i) (col h j) + prod X W (p1 c h) (row (fwd h c) i) (col h j) := by
  unfold msg2 k0_pay11
  rw [cast_add, truncf_apply, addf_apply, extf_apply, cast_drop, cast_drop, keptI_apply X W c h _ (fwd h c) (keep_fwd h c), part_apply]
  rw [show fst h (p1 c h) = fwd h c from congrArg (fwd h) (nb_nb _ c)]

/-- The finished block before the second neighbour's part is the device's partial product and its first neighbour's,
    added. -/
theorem own1_apply (c : Dev nD) (h : Fin 2) (i : Fin 256) (j : Fin 512) :
    own1 X W c h (ix4 0 0 i j) = prod X W c (row (own h c) i) (col h j) + prod X W (p1 c h) (row (own h c) i) (col h j) := by
  unfold own1 k0_pay12
  rw [cast_add, addf_apply, extf_apply, cast_drop, cast_drop, keptI_apply X W c h _ (own h c) (keep_own h c), part_apply]
  rw [show snd h (p1 c h) = own h c from congrArg (own h) (nb_nb _ c)]

/-- A device, its two neighbours and the opposite one are all four. -/
theorem sum_four (f : Dev nD → EReal) (h : Fin 2) (c : Dev nD) :
    (f c + f (p1 c h)) + (f (p2 c h) + f (p1 (p2 c h) h)) = ∑ d, f d := by
  have hu : (Finset.univ : Finset (Dev nD)) = {c, p1 c h, p2 c h, p1 (p2 c h) h} := by revert h c; decide
  have h1 : c ∉ ({p1 c h, p2 c h, p1 (p2 c h) h} : Finset (Dev nD)) := by revert h c; decide
  have h2 : p1 c h ∉ ({p2 c h, p1 (p2 c h) h} : Finset (Dev nD)) := by revert h c; decide
  have h3 : p2 c h ∉ ({p1 (p2 c h) h} : Finset (Dev nD)) := by revert h c; decide
  rw [hu, Finset.sum_insert h1, Finset.sum_insert h2, Finset.sum_insert h3, Finset.sum_singleton, add_assoc]

/-- The rectified sum of the four devices' parts of entry `(r, q)`. -/
def total (r q : Fin 1024) : EReal := max (∑ d, prod X W d r q) 0

/-- The block a device finishes is the rectified sum. -/
theorem blk_apply (c : Dev nD) (h : Fin 2) (i : Fin 256) (j : Fin 512) :
    blk X W c h (ix2 i j) = total X W (row (own h c) i) (col h j) := by
  unfold blk k0_pay16 total
  rw [maximumf_apply, addf_apply, extf_apply, cast_drop, cast_drop, own1_apply, msg2_apply,
    show fwd h (p2 c h) = own h c from congrArg (own h) (nb_nb _ c), sum_four (fun d => prod X W d (row (own h c) i) (col h j)) h c]
  exact congrArg (max _) Ideal.ofBits_zero_f32

/-- And so is the message that carries it. -/
theorem msg3_apply (c : Dev nD) (h : Fin 2) (i : Fin 256) (j : Fin 512) :
    k0_pay18 (msg3 X W c h) (ix2 i j) = total X W (row (own h c) i) (col h j) := by
  unfold k0_pay18 msg3 k0_pay17
  rw [extf_apply, cast_drop, cast_add, truncf_apply]
  exact blk_apply X W c h i j

/-- Every block of the result is the rectified sum, finished here or received. -/
theorem outBlk_apply (c : Dev nD) (h : Fin 2) (b : Fin 4) (i : Fin 256) (j : Fin 512) :
    outBlk X W c h b (ix2 i j) = total X W (row b i) (col h j) := by
  unfold outBlk
  split
  · next hb => rw [hb]; exact blk_apply X W c h i j
  split
  · next _ hb => rw [hb]; exact msg3_apply X W (p2 c h) h i j
  split
  · next _ _ hb => rw [hb]; exact msg3_apply X W (p1 c h) h i j
  · next h1 h2 h3 =>
    rcases block_cases h c b with hb | hb | hb | hb
    · exact absurd hb h1
    · exact absurd hb h2
    · exact absurd hb h3
    · rw [hb]; exact msg3_apply X W (p2 (p1 c h) h) h i j

/-- The result, entry by entry. -/
theorem result_apply (c : Dev nD) (O : OC Ideal) (r q : Fin 1024) : result X W c O (ix2 r q) = total X W r q := by
  rw [result_at, outBlk_apply]
  refine congrArg₂ (total X W) (Fin.ext ?_) (Fin.ext ?_)
  · show 256 * (r.val / 256) + r.val % 256 = r.val; omega
  · show 512 * (q.val / 512) + q.val % 512 = q.val; omega

/-! ## The reference -/

/-- The reference's result of the whole arrays `A` and `B`. -/
def refOut (A B : OC Ideal) : OC Ideal :=
  maximumf (F := Ideal) (Host.dotGeneral (φ₁ := .f32) (φ₂ := .f32) Cert.ReferenceIdeal.dot_S1024x1024_S1024x1024_S1024x1024_1_0_0_1_n_n none A B)
    (broadcastInDim Cert.ReferenceIdeal.S1024x1024 ![] Cert.ReferenceIdeal.Gen.bcast_S_S1024x1024 (constant Cert.ReferenceIdeal.S_ .f32 0x00000000#32))

/-- The reference's entry `(r, q)`: the rectified contraction over all 1024. -/
theorem reference_apply (A B : OC Ideal) (r q : Fin 1024) :
    refOut A B (ix2 r q)
      = max (∑ k : Fin 1024, A (ix2 r k) * B (ix2 k q)) 0 := by
  unfold refOut
  rw [maximumf_apply]
  refine congrArg₂ max ?_ Ideal.ofBits_zero_f32
  exact StackMember.dotGeneral_plain_apply none A B r q

set_option backward.proofsInPublic true in
/-- A contraction over 1024 is the sum over the four devices of their 256. -/
theorem sum_blocks (f : Fin 1024 → EReal) : ∑ k, f k = ∑ d : Fin 4, ∑ k : Fin 256, f ⟨d.val * 256 + k.val, by omega⟩ := by
  rw [← Finset.sum_product', Finset.univ_product_univ]
  refine (Fintype.sum_equiv (finProdFinEquiv (m := 4) (n := 256)) _ _ fun p => congrArg f (Fin.ext ?_)).symm
  show p.1.val * 256 + p.2.val = p.2.val + 256 * p.1.val
  omega

/-- With each device given its block of the whole arrays, the kernel's result is the reference's. -/
theorem out_eq (m : (ℓ : Loc nD τ sig) → Buf (Elt Ideal) ℓ) (A B : OC Ideal)
    (hx : ∀ c : Dev nD, m ((c : Thread nD τ).loc main_arg0) = Layout.block ⟨2, ![1024, 256]⟩ ⟨2, ![1024, 1024]⟩ 1 4 c A)
    (hw : ∀ c : Dev nD, m ((c : Thread nD τ).loc main_arg1) = Layout.block ⟨2, ![256, 1024]⟩ ⟨2, ![1024, 1024]⟩ 0 4 c B) (c : Dev nD) :
    out m c = refOut A B := by
  funext j
  obtain ⟨r, q, rfl⟩ : ∃ (r q : Fin 1024), j = ix2 r q := ⟨j 0, j 1, eq_ix2 j⟩
  rw [reference_apply, sum_blocks]
  unfold out
  rw [result_apply]
  refine congrArg (max · 0) (Finset.sum_congr rfl fun d _ => Finset.sum_congr rfl fun k _ => ?_)
  rw [xs_eq, ws_eq, hx, hw]
  refine congrArg₂ (· * ·) (congrArg A ?_) (congrArg B ?_) <;> (funext a; fin_cases a <;> rfl)

end Cert.KernelIdeal.Ring
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

variable {F : FTy → Type} [FloatOps F]

/-- The kernel and its idealization are one program, for no operation was replaced: their bodies agree. -/
theorem bodies_eq : Cert.Kernel.defs₀ (F := F) = Cert.KernelIdeal.defs₀ (F := F) :=
  congrArg Defs.onTc (funext fun l => funext fun a => match l, a with
    | 0, (_, _) => rfl)
/-- So the tables in which a run looks its calls up are the same too. -/
theorem defs_eq : Cert.Kernel.defs (F := F) = Cert.KernelIdeal.defs (F := F) :=
  congrArg (Pipeline.defs Cert.KernelIdeal.pcfgs) bodies_eq

/-- The kernel at the machine's floats: the run proved at any float values is its run. -/
theorem frame_kernel : Cert.quiescent_Kernel := fun m ρ _ => by
  rw [defs_eq]
  exact (θ_run Cert.KernelIdeal.defs _ _).mono (fun _ h => And.intro (fun c => (h.1 c).2) h.2) (Cert.KernelIdeal.Ring.run_main (F := Bits) m ρ)

/-- The kernel over the extended reals. -/
theorem frame_kernelIdeal : Cert.quiescent_KernelIdeal := fun m ρ _ =>
  (θ_run Cert.KernelIdeal.defs _ _).mono (fun _ h => ⟨fun c => (h.1 c).2, h.2⟩) (Cert.KernelIdeal.Ring.run_main m ρ)

/-- The reference, a list of host operations. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)

/-- From each device's blocks of `x` and `w`, every device's result is the reference's. -/
theorem algebraic : Cert.algebraic_KernelIdeal_ReferenceIdeal := fun m ρ m' ρ' _ hin =>
  ⟨Cert.KernelIdeal.Ring.refOut _ _,
    (θ_run Cert.KernelIdeal.defs _ _).mono (fun _ h c =>
      ⟨(h.1 c).1.trans (Cert.KernelIdeal.Ring.out_eq m _ _ (fun d => (hin d).1) (fun d => (hin d).2) c), (h.1 c).2⟩)
      (Cert.KernelIdeal.Ring.run_main m ρ),
    (θ_run Cert.ReferenceIdeal.defs _ _).mono (fun _ h => h 0) (Cert.ReferenceIdeal.Value.run m' ρ')⟩

/-- All five claims. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
